-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S50000x512 : Shape := ⟨2, ![50000, 512]⟩
abbrev S128x512 : Shape := ⟨2, ![128, 512]⟩
abbrev S128 : Shape := ⟨1, ![128]⟩
abbrev S128x256 : Shape := ⟨2, ![128, 256]⟩
abbrev S512x128 : Shape := ⟨2, ![512, 128]⟩
abbrev S512 : Shape := ⟨1, ![512]⟩
abbrev S_ : Shape := ⟨0, ![]⟩

class Facts : Prop where
  bcast_S_S50000x512 : S_.BroadcastsInDim S50000x512 (![] : Fin 0 → Fin S50000x512.rank)
  bcast_S_S128x512 : S_.BroadcastsInDim S128x512 (![] : Fin 0 → Fin S128x512.rank)
  bcast_S_S128 : S_.BroadcastsInDim S128 (![] : Fin 0 → Fin S128.rank)
  bcast_S_S128x256 : S_.BroadcastsInDim S128x256 (![] : Fin 0 → Fin S128x256.rank)

variable [Facts]

def fn {F : FTy → Type} [FloatOps F] (main_arg0 : FVec F S50000x512 .f32) (main_arg1 : FVec F S128x512 .f32) (main_arg2 : FVec F S128 .f32) (main_arg3 : FVec F S128 .f32) (main_arg4 : FVec F S128 .f32) (main_arg5 : FVec F S128x256 .f32) (main_arg6 : FVec F S128 .f32) (main_arg7 : FVec F S128 .f32) (main_arg8 : FVec F S512x128 .f32) (main_arg9 : FVec F S512 .f32) : IVec S50000x512 1 × IVec S128x512 1 × IVec S128 1 × IVec S128 1 × IVec S128 1 × IVec S128x256 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_v3 : FVec F S128x512 .f32 := Host.absf main_arg1
  let main_cst_0 : FVec F S_ .f32 := constant S_ .f32 0x7F800000#32
  let main_v4 : FVec F S128x512 .f32 := broadcastInDim S128x512 ![] bcast_S_S128x512 main_cst_0
  let main_v5 : IVec S128x512 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x256 .f32 := Host.absf main_arg5
  let main_cst_4 : FVec F S_ .f32 := constant S_ .f32 0x7F800000#32
  let main_v16 : FVec F S128x256 .f32 := broadcastInDim S128x256 ![] bcast_S_S128x256 main_cst_4
  let main_v17 : IVec S128x256 1 := cmpf .olt main_v15 main_v16
  (main_v2, main_v5, main_v8, main_v11, main_v14, main_v17)
-- ==== Kernel.lean ====
abbrev S50000x512 : Shape := ⟨2, ![50000, 512]⟩
abbrev S128x512 : Shape := ⟨2, ![128, 512]⟩
abbrev S128 : Shape := ⟨1, ![128]⟩
abbrev S128x256 : Shape := ⟨2, ![128, 256]⟩
abbrev S512x128 : Shape := ⟨2, ![512, 128]⟩
abbrev S512 : Shape := ⟨1, ![512]⟩
abbrev S128x128 : Shape := ⟨2, ![128, 128]⟩
abbrev S1x128 : Shape := ⟨2, ![1, 128]⟩
abbrev S1x512 : Shape := ⟨2, ![1, 512]⟩
abbrev S2000x512 : Shape := ⟨2, ![2000, 512]⟩
abbrev S2x128 : Shape := ⟨2, ![2, 128]⟩
abbrev S21x2000x512 : Shape := ⟨3, ![21, 2000, 512]⟩
abbrev S1x2000x512 : Shape := ⟨3, ![1, 2000, 512]⟩
abbrev S2000x128 : Shape := ⟨2, ![2000, 128]⟩
abbrev S8x128 : Shape := ⟨2, ![8, 128]⟩
abbrev S64x8 : Shape := ⟨2, ![64, 8]⟩
abbrev S64x128 : Shape := ⟨2, ![64, 128]⟩
abbrev S8x64 : Shape := ⟨2, ![8, 64]⟩
abbrev S8x512 : Shape := ⟨2, ![8, 512]⟩

abbrev nBuf : Space → Nat
  | .hbm => 25
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S512x128, .f32⟩
  | .hbm, ⟨9, _⟩ => ⟨S512, .f32⟩
  | .hbm, ⟨10, _⟩ => ⟨S512x128, .f32⟩
  | .hbm, ⟨11, _⟩ => ⟨S512x128, .bf16⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x512, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x512, .f32⟩
  | .hbm, ⟨24, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x128, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x512, .f32⟩
  | .local _ .vmem, ⟨11, _⟩ => ⟨S1x512, .f32⟩
  | .local _ .vmem, ⟨12, _⟩ => ⟨S2000x512, .f32⟩
  | .local _ .vmem, ⟨13, _⟩ => ⟨S2000x512, .f32⟩
  | .local _ .vmem, ⟨14, _⟩ => ⟨S2x128, .f32⟩
  | .local _ .vmem, ⟨15, _⟩ => ⟨S128x128, .f32⟩
  | .local _ .vmem, ⟨16, _⟩ => ⟨S1x512, .f32⟩
  | .local _ .vmem, ⟨17, _⟩ => ⟨S21x2000x512, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c21_i32 : BitVec 32 := 21#32
  let v8 : BitVec 1 := Scalar.cmpi .slt arg1 c21_i32
  let v9 : BitVec 32 := Scalar.extui v8
  let c0_i32_3 : BitVec 32 := 0#32
  let v10 : BitVec 1 := Scalar.cmpi .ne v9 c0_i32_3
  v10

def k0_off1 (i : grid0.Coords) : Fin 3 → Nat :=
  let arg1 : BitVec 32 := BitVec.ofNat 32 (i 1).val
  let v28 : Index := Scalar.indexCast arg1
  let c0_13 : Index := 0#32
  let c0_14 : Index := 0#32
  ![v28.toNat, 0, 0]
def k0_cond6 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond7 (i : grid0.Coords) : BitVec 1 :=
  let arg1 : BitVec 32 := BitVec.ofNat 32 (i 1).val
  let c21_i32 : BitVec 32 := 21#32
  let v6 : BitVec 1 := Scalar.cmpi .slt arg1 c21_i32
  let v7 : BitVec 32 := Scalar.extui v6
  let c0_i32_2 : BitVec 32 := 0#32
  let v8 : BitVec 1 := Scalar.cmpi .ne v7 c0_i32_2
  v8

def k0_off2 (i : grid0.Coords) : Fin 3 → Nat :=
  let arg1 : BitVec 32 := BitVec.ofNat 32 (i 1).val
  let v12 : Index := Scalar.indexCast arg1
  let c0 : Index := 0#32
  let c0_5 : Index := 0#32
  ![v12.toNat, 0, 0]
def k0_cond8 (i : grid0.Coords) : BitVec 1 :=
  let arg1 : BitVec 32 := BitVec.ofNat 32 (i 1).val
  let c21_i32_3 : BitVec 32 := 21#32
  let v9 : BitVec 1 := Scalar.cmpi .sge arg1 c21_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c21_i32 : BitVec 32 := 21#32
  let v1 : BitVec 32 := Scalar.maxsi arg1 c21_i32
  let v2 : BitVec 32 := Scalar.select v0 arg1 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S2000x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S50000x512 : Shape := ⟨2, ![50000, 512]⟩
abbrev S128x512 : Shape := ⟨2, ![128, 512]⟩
abbrev S128 : Shape := ⟨1, ![128]⟩
abbrev S128x256 : Shape := ⟨2, ![128, 256]⟩
abbrev S512x128 : Shape := ⟨2, ![512, 128]⟩
abbrev S512 : Shape := ⟨1, ![512]⟩
abbrev S50000x128 : Shape := ⟨2, ![50000, 128]⟩
abbrev S1x128 : Shape := ⟨2, ![1, 128]⟩
abbrev S_ : Shape := ⟨0, ![]⟩
abbrev S8x16 : Shape := ⟨2, ![8, 16]⟩
abbrev S8x16x1 : Shape := ⟨3, ![8, 16, 1]⟩
abbrev S1 : Shape := ⟨1, ![1]⟩
abbrev S1x1x1 : Shape := ⟨3, ![1, 1, 1]⟩
abbrev S8x16x128 : Shape := ⟨3, ![8, 16, 128]⟩
abbrev S8x128 : Shape := ⟨2, ![8, 128]⟩
abbrev S8 : Shape := ⟨1, ![8]⟩
abbrev S8x8 : Shape := ⟨2, ![8, 8]⟩
abbrev S64 : Shape := ⟨1, ![64]⟩
abbrev S1x8 : Shape := ⟨2, ![1, 8]⟩
abbrev S64x1 : Shape := ⟨2, ![64, 1]⟩
abbrev S1x1 : Shape := ⟨2, ![1, 1]⟩
abbrev S64x128 : Shape := ⟨2, ![64, 128]⟩
abbrev S64x256 : Shape := ⟨2, ![64, 256]⟩
abbrev S256x128 : Shape := ⟨2, ![256, 128]⟩
abbrev S8x512 : Shape := ⟨2, ![8, 512]⟩
abbrev S1x512 : Shape := ⟨2, ![1, 512]⟩

abbrev nBuf : Space → Nat
  | .hbm => 240
  | .vmem => 0
  | .smem => 0
  | _ => 0

abbrev hbmTy0_0 (i : Nat) : BufTy := match i % 128 with
  | 0 => ⟨S50000x512, .f32⟩
  | 1 => ⟨S128x512, .f32⟩
  | 2 => ⟨S128, .f32⟩
  | 3 => ⟨S128, .f32⟩
  | 4 => ⟨S128, .f32⟩
  | 5 => ⟨S128x256, .f32⟩
  | 6 => ⟨S128, .f32⟩
  | 7 => ⟨S128, .f32⟩
  | 8 => ⟨S512x128, .f32⟩
  | 9 => ⟨S512, .f32⟩
  | 10 => ⟨S512x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S50000x128, .f32⟩
  | 29 => ⟨S50000x128, .f32⟩
  | 30 => ⟨S50000x128, .f32⟩
  | 31 => ⟨S_, .f32⟩
  | 32 => ⟨S_, .f32⟩
  | 33 => ⟨S_, .f32⟩
  | 34 => ⟨S_, .f32⟩
  | 35 => ⟨S128, .f32⟩
  | 36 => ⟨S1x128, .f32⟩
  | 37 => ⟨S1x128, .f32⟩
  | 38 => ⟨S1x128, .f32⟩
  | 39 => ⟨S_, .f32⟩
  | 40 => ⟨S_, .i1⟩
  | 41 => ⟨S_, .f32⟩
  | 42 => ⟨S_, .f32⟩
  | 43 => ⟨S1x128, .f32⟩
  | 44 => ⟨S1x128, .f32⟩
  | 45 => ⟨S50000x128, .f32⟩
  | 46 => ⟨S50000x128, .f32⟩
  | 47 => ⟨S_, .f32⟩
  | 48 => ⟨S1x128, .f32⟩
  | 49 => ⟨S1x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S128, .i32⟩
  | 69 => ⟨S8x16, .i32⟩
  | 70 => ⟨S_, .i32⟩
  | 71 => ⟨S8x16, .i32⟩
  | 72 => ⟨S8x16, .i1⟩
  | 73 => ⟨S_, .i32⟩
  | 74 => ⟨S8x16, .i32⟩
  | 75 => ⟨S8x16, .i32⟩
  | 76 => ⟨S8x16, .i32⟩
  | 77 => ⟨S8x16x1, .i32⟩
  | 78 => ⟨S1, .i32⟩
  | 79 => ⟨S_, .i32⟩
  | 80 => ⟨S8x16x1, .i32⟩
  | 81 => ⟨S8x16x1, .i1⟩
  | 82 => ⟨S1x1x1, .i32⟩
  | 83 => ⟨S8x16x1, .i32⟩
  | 84 => ⟨S8x16x1, .i1⟩
  | 85 => ⟨S8x16x1, .i1⟩
  | 86 => ⟨S_, .i1⟩
  | 87 => ⟨S8x16, .i1⟩
  | 88 => ⟨S8x16x128, .f32⟩
  | 89 => ⟨S8x16x128, .i1⟩
  | 90 => ⟨S_, .f32⟩
  | 91 => ⟨S8x16x128, .f32⟩
  | 92 => ⟨S8x16x128, .f32⟩
  | 93 => ⟨S_, .f32⟩
  | 94 => ⟨S8x128, .f32⟩
  | 95 => ⟨S_, .f32⟩
  | 96 => ⟨S8x128, .f32⟩
  | 97 => ⟨S8x128, .f32⟩
  | 98 => ⟨S8, .i32⟩
  | 99 => ⟨S8x8, .i32⟩
  | 100 => ⟨S64, .i32⟩
  | 101 => ⟨S8, .i32⟩
  | 102 => ⟨S1x8, .i32⟩
  | 103 => ⟨S8x8, .i32⟩
  | 104 => ⟨S64, .i32⟩
  | 105 => ⟨S_, .i32⟩
  | 106 => ⟨S64, .i32⟩
  | 107 => ⟨S64, .i1⟩
  | 108 => ⟨S_, .i32⟩
  | 109 => ⟨S64, .i32⟩
  | 110 => ⟨S64, .i32⟩
  | 111 => ⟨S64, .i32⟩
  | 112 => ⟨S64x1, .i32⟩
  | 113 => ⟨S1, .i32⟩
  | 114 => ⟨S_, .i32⟩
  | 115 => ⟨S64x1, .i32⟩
  | 116 => ⟨S64x1, .i1⟩
  | 117 => ⟨S1x1, .i32⟩
  | 118 => ⟨S64x1, .i32⟩
  | 119 => ⟨S64x1, .i1⟩
  | 120 => ⟨S64x1, .i1⟩
  | 121 => ⟨S_, .i1⟩
  | 122 => ⟨S64, .i1⟩
  | 123 => ⟨S64x128, .f32⟩
  | 124 => ⟨S64x128, .i1⟩
  | 125 => ⟨S_, .f32⟩
  | 126 => ⟨S64x128, .f32⟩
  | 127 => ⟨S64x128, .f32⟩
  | _ => ⟨S50000x512, .f32⟩

abbrev hbmTy0_1 (i : Nat) : BufTy := match i % 128 with
  | 0 => ⟨S_, .i32⟩
  | 1 => ⟨S64, .i32⟩
  | 2 => ⟨S64, .i1⟩
  | 3 => ⟨S_, .i32⟩
  | 4 => ⟨S64, .i32⟩
  | 5 => ⟨S64, .i32⟩
  | 6 => ⟨S64, .i32⟩
  | 7 => ⟨S64x1, .i32⟩
  | 8 => ⟨S1, .i32⟩
  | 9 => ⟨S_, .i32⟩
  | 10 => ⟨S64x1, .i32⟩
  | 11 => ⟨S64x1, .i1⟩
  | 12 => ⟨S1x1, .i32⟩
  | 13 => ⟨S64x1, .i32⟩
  | 14 => ⟨S64x1, .i1⟩
  | 15 => ⟨S64x1, .i1⟩
  | 16 => ⟨S_, .i1⟩
  | 17 => ⟨S64, .i1⟩
  | 18 => ⟨S64x128, .f32⟩
  | 19 => ⟨S64x128, .i1⟩
  | 20 => ⟨S_, .f32⟩
  | 21 => ⟨S64x128, .f32⟩
  | 22 => ⟨S64x128, .f32⟩
  | 23 => ⟨S64x128, .f32⟩
  | 24 => ⟨S64x256, .f32⟩
  | 25 => ⟨S256x128, .f32⟩
  | 26 => ⟨S64x128, .f32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S64x128, .f32⟩
  | 41 => ⟨S64x128, .f32⟩
  | 42 => ⟨S64x128, .f32⟩
  | 43 => ⟨S_, .f32⟩
  | 44 => ⟨S_, .f32⟩
  | 45 => ⟨S_, .f32⟩
  | 46 => ⟨S_, .f32⟩
  | 47 => ⟨S128, .f32⟩
  | 48 => ⟨S1x128, .f32⟩
  | 49 => ⟨S1x128, .f32⟩
  | 50 => ⟨S1x128, .f32⟩
  | 51 => ⟨S_, .f32⟩
  | 52 => ⟨S_, .i1⟩
  | 53 => ⟨S_, .f32⟩
  | 54 => ⟨S_, .f32⟩
  | 55 => ⟨S1x128, .f32⟩
  | 56 => ⟨S1x128, .f32⟩
  | 57 => ⟨S64x128, .f32⟩
  | 58 => ⟨S64x128, .f32⟩
  | 59 => ⟨S_, .f32⟩
  | 60 => ⟨S1x128, .f32⟩
  | 61 => ⟨S1x128, .f32⟩
  | 62 => ⟨S1x128, .f32⟩
  | 63 => ⟨S64x128, .f32⟩
  | 64 => ⟨S64x128, .f32⟩
  | 65 => ⟨S1x128, .f32⟩
  | 66 => ⟨S64x128, .f32⟩
  | 67 => ⟨S64x128, .f32⟩
  | 68 => ⟨S1x128, .f32⟩
  | 69 => ⟨S64x128, .f32⟩
  | 70 => ⟨S64x128, .f32⟩
  | 71 => ⟨S64x128, .f32⟩
  | 72 => ⟨S64x128, .f32⟩
  | 73 => ⟨S_, .f32⟩
  | 74 => ⟨S64x128, .f32⟩
  | 75 => ⟨S64x128, .f32⟩
  | 76 => ⟨S_, .f32⟩
  | 77 => ⟨S64x128, .f32⟩
  | 78 => ⟨S64x128, .f32⟩
  | 79 => ⟨S64x128, .f32⟩
  | 80 => ⟨S_, .f32⟩
  | 81 => ⟨S8x128, .f32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S64x1, .i32⟩
  | 90 => ⟨S8x128, .f32⟩
  | 91 => ⟨S128x512, .f32⟩
  | 92 => ⟨S8x512, .f32⟩
  | 93 => ⟨S1x512, .f32⟩
  | 94 => ⟨S8x512, .f32⟩
  | 95 => ⟨S8x512, .f32⟩
  | 96 => ⟨S8x512, .f32⟩
  | 97 => ⟨S8x512, .f32⟩
  | 98 => ⟨S_, .f32⟩
  | 99 => ⟨S8x512, .f32⟩
  | 100 => ⟨S8x512, .f32⟩
  | 101 => ⟨S_, .f32⟩
  | 102 => ⟨S8x512, .f32⟩
  | 103 => ⟨S8x512, .f32⟩
  | 104 => ⟨S_, .f32⟩
  | 105 => ⟨S512, .f32⟩
  | 106 => ⟨S1x512, .f32⟩
  | 107 => ⟨S_, .f32⟩
  | 108 => ⟨S1x512, .f32⟩
  | 109 => ⟨S1x512, .f32⟩
  | 110 => ⟨S50000x512, .f32⟩
  | 111 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_2 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v32 : Ref sig .tc := ⟨.hbm, 92, rfl⟩
abbrev main_cst_4 : Ref sig .tc := ⟨.hbm, 93, rfl⟩
abbrev main_v33 : Ref sig .tc := ⟨.hbm, 94, rfl⟩
abbrev main_cst_5 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_v14 : Ref sig .tc := ⟨.hbm, 124, rfl⟩
abbrev main_call2_cst : Ref sig .tc := ⟨.hbm, 125, rfl⟩
abbrev main_call2_v15 : Ref sig .tc := ⟨.hbm, 126, rfl⟩
abbrev main_v43 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_cst_6 : Ref sig .tc := ⟨.hbm, 155, rfl⟩
abbrev main_v49 : Ref sig .tc := ⟨.hbm, 156, rfl⟩
abbrev main_v50 : Ref sig .tc := ⟨.hbm, 157, rfl⟩
abbrev main_cst_7 : Ref sig .tc := ⟨.hbm, 158, rfl⟩
abbrev main_v51 : Ref sig .tc := ⟨.hbm, 159, rfl⟩
abbrev main_v52 : Ref sig .tc := ⟨.hbm, 160, rfl⟩
abbrev main_c_8 : Ref sig .tc := ⟨.hbm, 161, rfl⟩
abbrev main_call4_cst : Ref sig .tc := ⟨.hbm, 162, rfl⟩
abbrev main_call4_v0 : Ref sig .tc := ⟨.hbm, 163, rfl⟩
abbrev main_call4_v1 : Ref sig .tc := ⟨.hbm, 164, rfl⟩
abbrev main_call4_cst_0 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_v6 : Ref sig .tc := ⟨.hbm, 170, rfl⟩
abbrev main_call4_v7 : Ref sig .tc := ⟨.hbm, 171, rfl⟩
abbrev main_call4_cst_1 : Ref sig .tc := ⟨.hbm, 172, rfl⟩
abbrev main_call4_v8 : Ref sig .tc := ⟨.hbm, 173, rfl⟩
abbrev main_call4_cst_2 : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_call4_v12 : Ref sig .tc := ⟨.hbm, 178, rfl⟩
abbrev main_call4_cst_3 : Ref sig .tc := ⟨.hbm, 179, rfl⟩
abbrev main_call4_v13 : Ref sig .tc := ⟨.hbm, 180, rfl⟩
abbrev main_call4_cst_4 : Ref sig .tc := ⟨.hbm, 181, rfl⟩
abbrev main_call4_call0_v0 : Ref sig .tc := ⟨.hbm, 182, rfl⟩
abbrev main_call4_call0_v1 : Ref sig .tc := ⟨.hbm, 183, rfl⟩
abbrev main_v53 : Ref sig .tc := ⟨.hbm, 184, rfl⟩
abbrev main_v54 : Ref sig .tc := ⟨.hbm, 185, rfl⟩
abbrev main_v55 : Ref sig .tc := ⟨.hbm, 186, rfl⟩
abbrev main_cst_9 : Ref sig .tc := ⟨.hbm, 187, rfl⟩
abbrev main_v56 : Ref sig .tc := ⟨.hbm, 188, rfl⟩
abbrev main_v57 : Ref sig .tc := ⟨.hbm, 189, rfl⟩
abbrev main_v58 : Ref sig .tc := ⟨.hbm, 190, rfl⟩
abbrev main_v59 : Ref sig .tc := ⟨.hbm, 191, rfl⟩
abbrev main_v60 : Ref sig .tc := ⟨.hbm, 192, rfl⟩
abbrev main_v61 : Ref sig .tc := ⟨.hbm, 193, rfl⟩
abbrev main_v62 : Ref sig .tc := ⟨.hbm, 194, rfl⟩
abbrev main_v63 : Ref sig .tc := ⟨.hbm, 195, rfl⟩
abbrev main_v64 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_cst_10 : Ref sig .tc := ⟨.hbm, 201, rfl⟩
abbrev main_v69 : Ref sig .tc := ⟨.hbm, 202, rfl⟩
abbrev main_v70 : Ref sig .tc := ⟨.hbm, 203, rfl⟩
abbrev main_cst_11 : Ref sig .tc := ⟨.hbm, 204, rfl⟩
abbrev main_v71 : Ref sig .tc := ⟨.hbm, 205, rfl⟩
abbrev main_v72 : Ref sig .tc := ⟨.hbm, 206, rfl⟩
abbrev main_v73 : Ref sig .tc := ⟨.hbm, 207, rfl⟩
abbrev main_cst_12 : Ref sig .tc := ⟨.hbm, 208, rfl⟩
abbrev main_v74 : Ref sig .tc := ⟨.hbm, 209, rfl⟩
abbrev main_c_13 : Ref sig .tc := ⟨.hbm, 210, rfl⟩
abbrev main_v75 : Ref sig .tc := ⟨.hbm, 211, rfl⟩
abbrev main_v76 : Ref sig .tc := ⟨.hbm, 212, rfl⟩
abbrev main_c_14 : Ref sig .tc := ⟨.hbm, 213, rfl⟩
abbrev main_v77 : Ref sig .tc := ⟨.hbm, 214, rfl⟩
abbrev main_v78 : Ref sig .tc := ⟨.hbm, 215, rfl⟩
abbrev main_v79 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_cst_15 : Ref sig .tc := ⟨.hbm, 226, rfl⟩
abbrev main_v89 : Ref sig .tc := ⟨.hbm, 227, rfl⟩
abbrev main_v90 : Ref sig .tc := ⟨.hbm, 228, rfl⟩
abbrev main_cst_16 : Ref sig .tc := ⟨.hbm, 229, rfl⟩
abbrev main_v91 : Ref sig .tc := ⟨.hbm, 230, rfl⟩
abbrev main_v92 : Ref sig .tc := ⟨.hbm, 231, rfl⟩
abbrev main_cst_17 : Ref sig .tc := ⟨.hbm, 232, rfl⟩
abbrev main_v93 : Ref sig .tc := ⟨.hbm, 233, rfl⟩
abbrev main_v94 : Ref sig .tc := ⟨.hbm, 234, rfl⟩
abbrev main_cst_18 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩

abbrev nD : Nat := 1
abbrev τ : Topo := Topo.v7x

variable {F : FTy → Type} [FloatOps F]
-- ==== Proof.Body.lean ====
/- One run of the kernel's body, case by case: what it leaves in its output block and in its four scratch buffers, as
   functions of what it finds there. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The sixteen buffers one run of the body works on, each a whole one: eleven inputs, the output block, and the
    scratch (sums, first rows, attention vector, cached blocks). -/
structure Bufs where
  x : Memref sig .tc .vmem S2000x512 .f32
  hx : x.IsWhole
  w : Memref sig .tc .vmem S512x128 .bf16
  hw : w.IsWhole
  b : Memref sig .tc .vmem S1x128 .f32
  hb : b.IsWhole
  g1 : Memref sig .tc .vmem S1x128 .f32
  hg1 : g1.IsWhole
  e1 : Memref sig .tc .vmem S1x128 .f32
  he1 : e1.IsWhole
  wd : Memref sig .tc .vmem S128x128 .f32
  hwd : wd.IsWhole
  wb : Memref sig .tc .vmem S128x128 .f32
  hwb : wb.IsWhole
  g2 : Memref sig .tc .vmem S1x128 .f32
  hg2 : g2.IsWhole
  e2 : Memref sig .tc .vmem S1x128 .f32
  he2 : e2.IsWhole
  wa : Memref sig .tc .vmem S128x512 .f32
  hwa : wa.IsWhole
  ba : Memref sig .tc .vmem S1x512 .f32
  hba : ba.IsWhole
  o : Memref sig .tc .vmem S2000x512 .f32
  ho : o.IsWhole
  acc : Memref sig .tc .vmem S2x128 .f32
  hacc : acc.IsWhole
  yh : Memref sig .tc .vmem S128x128 .f32
  hyh : yh.IsWhole
  att : Memref sig .tc .vmem S1x512 .f32
  hatt : att.IsWhole
  xc : Memref sig .tc .vmem S21x2000x512 .bf16
  hxc : xc.IsWhole

/-- The body on these buffers at grid point `i`. -/
abbrev Bufs.body (B : Bufs) (i : grid0.Coords) : Prog (TpuEff nD τ sig (Elt F) Λ₀ .tc) PUnit :=
  cc0__fused_body i B.x B.hx B.w B.hw B.b B.hb B.g1 B.hg1 B.e1 B.he1 B.wd B.hwd B.wb B.hwb B.g2 B.hg2 B.e2 B.he2
    B.wa B.hwa B.ba B.hba B.o B.ho B.acc B.hacc B.yh B.hyh B.att B.hatt B.xc B.hxc

/-- What the eleven input buffers hold. -/
structure Ins (F : FTy → Type) [FloatOps F] where
  x : Vec F S2000x512 .f32
  w : Vec F S512x128 .bf16
  b : Vec F S1x128 .f32
  g1 : Vec F S1x128 .f32
  e1 : Vec F S1x128 .f32
  wd : Vec F S128x128 .f32
  wb : Vec F S128x128 .f32
  g2 : Vec F S1x128 .f32
  e2 : Vec F S1x128 .f32
  wa : Vec F S128x512 .f32
  ba : Vec F S1x512 .f32

/-- What the output block and the four scratch buffers hold. -/
structure Scr (F : FTy → Type) [FloatOps F] where
  o : Vec F S2000x512 .f32
  acc : Vec F S2x128 .f32
  yh : Vec F S128x128 .f32
  att : Vec F S1x512 .f32
  xc : Vec F S21x2000x512 .bf16

/-- The input buffers, owned at `I`. -/
def Bufs.ins (B : Bufs) (c : Dev nD) (I : Ins F) : sProp 𝕄 :=
  iprop(owns (c : Thread nD τ) B.x fullShare I.x ∗ owns (c : Thread nD τ) B.w fullShare I.w
    ∗ owns (c : Thread nD τ) B.b fullShare I.b ∗ owns (c : Thread nD τ) B.g1 fullShare I.g1
    ∗ owns (c : Thread nD τ) B.e1 fullShare I.e1 ∗ owns (c : Thread nD τ) B.wd fullShare I.wd
    ∗ owns (c : Thread nD τ) B.wb fullShare I.wb ∗ owns (c : Thread nD τ) B.g2 fullShare I.g2
    ∗ owns (c : Thread nD τ) B.e2 fullShare I.e2 ∗ owns (c : Thread nD τ) B.wa fullShare I.wa
    ∗ owns (c : Thread nD τ) B.ba fullShare I.ba)

/-- The output block and the scratch buffers, owned at `S`. -/
def Bufs.scr (B : Bufs) (c : Dev nD) (S : Scr F) : sProp 𝕄 :=
  iprop(owns (c : Thread nD τ) B.o fullShare S.o ∗ owns (c : Thread nD τ) B.acc fullShare S.acc
    ∗ owns (c : Thread nD τ) B.yh fullShare S.yh ∗ owns (c : Thread nD τ) B.att fullShare S.att
    ∗ owns (c : Thread nD τ) B.xc fullShare S.xc)

/-- The body at `i`, on inputs `I`, takes the output block and the scratch from `S` to `S'`. -/
def Runs (c : Dev nD) (i : grid0.Coords) (B : Bufs) (I : Ins F) (S S' : Scr F) : Prop :=
  ∀ (E : Set ℕ) (K : PUnit → sProp 𝕄),
    iprop(B.ins c I ∗ B.scr c S ∗ (iprop(B.ins c I ∗ B.scr c S') -∗ K ⟨⟩))
      ⊢ wp frame (wpE (defs₀ (F := F)) Variants.none c none) E (B.body i) K

/-- Buffers held at contents that read `I` and `S` are the inputs owned at `I` and the rest owned at `S`. -/
theorem Bufs.fold (B : Bufs) (c : Dev nD) (I : Ins F) (S : Scr F)
    {f0 : B.x.view.ty.Contents (Elt F)} {f1 : B.w.view.ty.Contents (Elt F)} {f2 : B.b.view.ty.Contents (Elt F)} {f3 : B.g1.view.ty.Contents (Elt F)} {f4 : B.e1.view.ty.Contents (Elt F)} {f5 : B.wd.view.ty.Contents (Elt F)} {f6 : B.wb.view.ty.Contents (Elt F)} {f7 : B.g2.view.ty.Contents (Elt F)} {f8 : B.e2.view.ty.Contents (Elt F)} {f9 : B.wa.view.ty.Contents (Elt F)} {f10 : B.ba.view.ty.Contents (Elt F)} {f11 : B.o.view.ty.Contents (Elt F)} {f12 : B.acc.view.ty.Contents (Elt F)} {f13 : B.yh.view.ty.Contents (Elt F)} {f14 : B.att.view.ty.Contents (Elt F)} {f15 : B.xc.view.ty.Contents (Elt F)}
    (h0 : B.x.view.read (Elt F) f0 = I.x)
    (h1 : B.w.view.read (Elt F) f1 = I.w)
    (h2 : B.b.view.read (Elt F) f2 = I.b)
    (h3 : B.g1.view.read (Elt F) f3 = I.g1)
    (h4 : B.e1.view.read (Elt F) f4 = I.e1)
    (h5 : B.wd.view.read (Elt F) f5 = I.wd)
    (h6 : B.wb.view.read (Elt F) f6 = I.wb)
    (h7 : B.g2.view.read (Elt F) f7 = I.g2)
    (h8 : B.e2.view.read (Elt F) f8 = I.e2)
    (h9 : B.wa.view.read (Elt F) f9 = I.wa)
    (h10 : B.ba.view.read (Elt F) f10 = I.ba)
    (h11 : B.o.view.read (Elt F) f11 = S.o)
    (h12 : B.acc.view.read (Elt F) f12 = S.acc)
    (h13 : B.yh.view.read (Elt F) f13 = S.yh)
    (h14 : B.att.view.read (Elt F) f14 = S.att)
    (h15 : B.xc.view.read (Elt F) f15 = S.xc) :
    iprop((B.x.view.loc (c : Thread nD τ) ↦[B.x.view.set]{fullShare} f0)
      ∗ (B.w.view.loc (c : Thread nD τ) ↦[B.w.view.set]{fullShare} f1)
      ∗ (B.b.view.loc (c : Thread nD τ) ↦[B.b.view.set]{fullShare} f2)
      ∗ (B.g1.view.loc (c : Thread nD τ) ↦[B.g1.view.set]{fullShare} f3)
      ∗ (B.e1.view.loc (c : Thread nD τ) ↦[B.e1.view.set]{fullShare} f4)
      ∗ (B.wd.view.loc (c : Thread nD τ) ↦[B.wd.view.set]{fullShare} f5)
      ∗ (B.wb.view.loc (c : Thread nD τ) ↦[B.wb.view.set]{fullShare} f6)
      ∗ (B.g2.view.loc (c : Thread nD τ) ↦[B.g2.view.set]{fullShare} f7)
      ∗ (B.e2.view.loc (c : Thread nD τ) ↦[B.e2.view.set]{fullShare} f8)
      ∗ (B.wa.view.loc (c : Thread nD τ) ↦[B.wa.view.set]{fullShare} f9)
      ∗ (B.ba.view.loc (c : Thread nD τ) ↦[B.ba.view.set]{fullShare} f10)
      ∗ (B.o.view.loc (c : Thread nD τ) ↦[B.o.view.set]{fullShare} f11)
      ∗ (B.acc.view.loc (c : Thread nD τ) ↦[B.acc.view.set]{fullShare} f12)
      ∗ (B.yh.view.loc (c : Thread nD τ) ↦[B.yh.view.set]{fullShare} f13)
      ∗ (B.att.view.loc (c : Thread nD τ) ↦[B.att.view.set]{fullShare} f14)
      ∗ (B.xc.view.loc (c : Thread nD τ) ↦[B.xc.view.set]{fullShare} f15))
      ⊢ (iprop(B.ins c I ∗ B.scr c S) : sProp 𝕄) := by
  unfold Bufs.ins Bufs.scr
  iintro ⟨H0, H1, H2, H3, H4, H5, H6, H7, H8, H9, H10, H11, H12, H13, H14, H15⟩
  isplitl [H0 H1 H2 H3 H4 H5 H6 H7 H8 H9 H10]
  · isplitl [H0]; · rw [← h0]; iapply owns_intro; iexact H0
    isplitl [H1]; · rw [← h1]; iapply owns_intro; iexact H1
    isplitl [H2]; · rw [← h2]; iapply owns_intro; iexact H2
    isplitl [H3]; · rw [← h3]; iapply owns_intro; iexact H3
    isplitl [H4]; · rw [← h4]; iapply owns_intro; iexact H4
    isplitl [H5]; · rw [← h5]; iapply owns_intro; iexact H5
    isplitl [H6]; · rw [← h6]; iapply owns_intro; iexact H6
    isplitl [H7]; · rw [← h7]; iapply owns_intro; iexact H7
    isplitl [H8]; · rw [← h8]; iapply owns_intro; iexact H8
    isplitl [H9]; · rw [← h9]; iapply owns_intro; iexact H9
    rw [← h10]; iapply owns_intro; iexact H10
  isplitl [H11]; · rw [← h11]; iapply owns_intro; iexact H11
  isplitl [H12]; · rw [← h12]; iapply owns_intro; iexact H12
  isplitl [H13]; · rw [← h13]; iapply owns_intro; iexact H13
  isplitl [H14]; · rw [← h14]; iapply owns_intro; iexact H14
  rw [← h15]; iapply owns_intro; iexact H15

/-- The sums after the first block. -/
def accInit (I : Ins F) (a : Vec F S2x128 .f32) : Vec F S2x128 .f32 :=
  VecWindow.put (s := S2x128) (VecWindow.put (s := S2x128) a ![0, 0] S1x128.size (k0_pay6 I.x I.w)) ![1, 0] S1x128.size
    (k0_pay7 I.x I.w)

/-- Row `r` of the sums. -/
def accRow0 (a : Vec F S2x128 .f32) : Vec F S1x128 .f32 := VecWindow.window (s := S2x128) a ![0, 0] S1x128.size inb_S2x128_S1x128_0_0
def accRow1 (a : Vec F S2x128 .f32) : Vec F S1x128 .f32 := VecWindow.window (s := S2x128) a ![1, 0] S1x128.size inb_S2x128_S1x128_1_0

/-- The sums after a later block. -/
def accNext (I : Ins F) (a : Vec F S2x128 .f32) : Vec F S2x128 .f32 :=
  VecWindow.put (s := S2x128) (VecWindow.put (s := S2x128) a ![0, 0] S1x128.size (k0_pay9 I.x I.w (accRow0 a))) ![1, 0]
    S1x128.size (k0_pay10 I.x I.w (accRow1 a))

/-- Row 0 of the grown sums: the old row plus the block's column sums. -/
theorem accRow0_accNext (I : Ins F) (a : Vec F S2x128 .f32) : accRow0 (accNext I a) = k0_pay9 I.x I.w (accRow0 a) :=
  (VecWindow.window_put_of_disjoint _ _ _ _ _ _ _ 0 (.inl (by decide))).trans (VecWindow.window_put_same _ _ _ _ _)

/-- Row 1 of the grown sums: the old row plus the block's column sums of squares. -/
theorem accRow1_accNext (I : Ins F) (a : Vec F S2x128 .f32) : accRow1 (accNext I a) = k0_pay10 I.x I.w (accRow1 a) :=
  VecWindow.window_put_same _ _ _ _ _

/-- Row 0 of the first sums: the first block's column sums. -/
theorem accRow0_accInit (I : Ins F) (a : Vec F S2x128 .f32) : accRow0 (accInit I a) = k0_pay6 I.x I.w :=
  (VecWindow.window_put_of_disjoint _ _ _ _ _ _ _ 0 (.inl (by decide))).trans (VecWindow.window_put_same _ _ _ _ _)

/-- Row 1 of the first sums: the first block's column sums of squares. -/
theorem accRow1_accInit (I : Ins F) (a : Vec F S2x128 .f32) : accRow1 (accInit I a) = k0_pay7 I.x I.w :=
  VecWindow.window_put_same _ _ _ _ _

/-- The attention vector, from the two rows of sums and the first 128 rows of the down-projection. -/
def attOf (I : Ins F) (r0 r1 : Vec F S1x128 .f32) (yh : Vec F S128x128 .f32) : Vec F S1x512 .f32 :=
  let h := k0_pay14 I.b r0 r1 yh I.g1 I.e1
  let p := iota .tc S8x128 32 [0] iota_S8x128_d0_w32
  let q := iota .tc S8x128 32 [1] iota_S8x128_d1_w32
  let u := k0_pay17 h p q 16#32 k0_pay15 I.wd
  let v := k0_pay18 h p q 16#32 k0_pay15 I.wb
  let r := iota .tc S64x8 32 [0] iota_S64x8_d0_w32
  let s := iota .tc S64x8 32 [1] iota_S64x8_d1_w32
  let e := k0_pay22 u v r s 8#32 k0_pay19 k0_pay20 k0_pay21
  let t := k0_pay23 u v r s 8#32 k0_pay19 k0_pay20 k0_pay21
  k0_pay11 (k0_pay25 e t k0_pay24 I.g2 I.e2) (iota .tc S8x64 32 [0] iota_S8x64_d0_w32) k0_pay26 k0_pay27 k0_pay28 I.wa I.ba

/-- The cache with block `x` stored at the offsets `off`. -/
def xcPut (off : Fin 3 → ℕ) (x : Vec F S2000x512 .f32) (z : Vec F S21x2000x512 .bf16) : Vec F S21x2000x512 .bf16 :=
  VecWindow.put (s := S21x2000x512) z off S1x2000x512.size (k0_pay2 x)

/-- Two rows of sums stored over the sums leave `accNext`. -/
theorem read_accNext (B : Bufs) (I : Ins F) (a : Vec F S2x128 .f32) {f : B.acc.view.ty.Contents (Elt F)}
    (hf : B.acc.view.read (Elt F) f = a) {x : Vec F S2000x512 .f32} {w : Vec F S512x128 .bf16} {r0 r1 : Vec F S1x128 .f32}
    (hx : x = I.x) (hw : w = I.w) (h0 : r0 = accRow0 a) (h1 : r1 = accRow1 a) :
    B.acc.view.read (Elt F) (B.acc.view.writes (Elt F) f
        [⟨Rect.unit ![1, 0] S1x128.size inb_S2x128_S1x128_1_0, k0_pay10 x w r1⟩,
          ⟨Rect.unit ![0, 0] S1x128.size inb_S2x128_S1x128_0_0, k0_pay9 x w r0⟩]) = accNext I a := by
  subst hx hw h0 h1
  rw [View.read_writes_cons_put _ _ _ _ _ rfl, View.read_writes_cons_put _ _ _ _ _ rfl, View.writes_nil, hf]; rfl

/-- A block stored over the cache leaves `xcPut`. -/
theorem read_xcPut (B : Bufs) {off : Fin 3 → ℕ} (inb : ∀ a, off a + S1x2000x512.size a ≤ S21x2000x512.size a)
    (z : Vec F S21x2000x512 .bf16) {f : B.xc.view.ty.Contents (Elt F)} (hf : B.xc.view.read (Elt F) f = z)
    {x x' : Vec F S2000x512 .f32} (hx : x = x') :
    B.xc.view.read (Elt F) (B.xc.view.writes (Elt F) f [⟨Rect.unit (s := S21x2000x512) off S1x2000x512.size inb, k0_pay2 x⟩])
      = xcPut off x' z := by
  subst hx
  rw [View.read_writes_cons_put _ _ _ _ _ rfl, View.writes_nil, hf]; rfl

/-- Case A (the first point): the sums start, the first 128 rows of the down-projection are kept, the block is cached. -/
theorem runs_A (c : Dev nD) (i : grid0.Coords) (B : Bufs) (I : Ins F) (S : Scr F)
    (h1 : k0_cond1 i = 1#1)
    (h2 : k0_cond2 i = 1#1)
    (h3 : (Scalar.cmpi .ne (Scalar.extui (Scalar.cmpi .eq (BitVec.ofNat 32 (i 1).val) 0#32)) 0#32) = 1#1)
    (h4 : ¬ (Scalar.cmpi .ne (Scalar.extui (Scalar.cmpi .sgt (BitVec.ofNat 32 (i 1).val) 0#32)) 0#32) = 1#1)
    (h5 : ¬ (Scalar.cmpi .ne (Scalar.extui (Scalar.cmpi .eq (BitVec.ofNat 32 (i 1).val) 24#32)) 0#32) = 1#1)
    (h6 : ¬ k0_cond6 i = 1#1) :
    Runs c i B I S ⟨S.o, accInit I S.acc, k0_pay8 I.x I.w, S.att, xcPut (k0_off1 i) I.x S.xc⟩ := by
  intro E K
  generalize hP : iprop(B.ins c I ∗ B.scr c ⟨S.o, accInit I S.acc, k0_pay8 I.x I.w, S.att, xcPut (k0_off1 i) I.x S.xc⟩) = P
  simp only [Bufs.body, cc0__fused_body_eq_skeleton]; unfold cc0__fused_body_skel
  unfold Bufs.ins Bufs.scr owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f11, %hf11, H11⟩, ⟨%f12, %hf12, H12⟩, ⟨%f13, %hf13, H13⟩, ⟨%f14, %hf14, H14⟩, ⟨%f15, %hf15, H15⟩⟩, Hk⟩
  sl_exec (disch := first | sl_exact h1 | sl_exact h2 | sl_exact h3 | sl_exact h4 | sl_exact h5 | sl_exact h6)
  sl_step
  have e0 := (B.x.view.readAt_full f0 inb_S2000x512_S2000x512_0_0).trans hf0
  have e1 := (B.w.view.readAt_full f1 inb_S512x128_S512x128_0_0).trans hf1
  iapply Hk
  rw [← hP]
  iapply (B.fold c I ⟨S.o, accInit I S.acc, k0_pay8 I.x I.w, S.att, xcPut (k0_off1 i) I.x S.xc⟩ hf0 hf1 hf2 hf3 hf4 hf5 hf6 hf7 hf8 hf9 hf10 hf11 ?_ ?_ hf14 ?_)
  rotate_left 3
  · iframe
  · rw [View.read_writes_cons_put _ _ _ _ _ rfl, View.read_writes_cons_put _ _ _ _ _ rfl, View.writes_nil, hf12,
      e0, e1]; rfl
  · rw [View.read_writes_full, e0, e1]
  · exact read_xcPut B _ _ hf15 e0

/-- Case B (points 1 to 20): the sums grow and the block is cached. -/
theorem runs_B (c : Dev nD) (i : grid0.Coords) (B : Bufs) (I : Ins F) (S : Scr F)
    (h1 : k0_cond1 i = 1#1)
    (h2 : k0_cond2 i = 1#1)
    (h3 : ¬ (Scalar.cmpi .ne (Scalar.extui (Scalar.cmpi .eq (BitVec.ofNat 32 (i 1).val) 0#32)) 0#32) = 1#1)
    (h4 : (Scalar.cmpi .ne (Scalar.extui (Scalar.cmpi .sgt (BitVec.ofNat 32 (i 1).val) 0#32)) 0#32) = 1#1)
    (h5 : ¬ (Scalar.cmpi .ne (Scalar.extui (Scalar.cmpi .eq (BitVec.ofNat 32 (i 1).val) 24#32)) 0#32) = 1#1)
    (h6 : ¬ k0_cond6 i = 1#1) :
    Runs c i B I S ⟨S.o, accNext I S.acc, S.yh, S.att, xcPut (k0_off1 i) I.x S.xc⟩ := by
  intro E K
  generalize hP : iprop(B.ins c I ∗ B.scr c ⟨S.o, accNext I S.acc, S.yh, S.att, xcPut (k0_off1 i) I.x S.xc⟩) = P
  simp only [Bufs.body, cc0__fused_body_eq_skeleton]; unfold cc0__fused_body_skel
  unfold Bufs.ins Bufs.scr owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f11, %hf11, H11⟩, ⟨%f12, %hf12, H12⟩, ⟨%f13, %hf13, H13⟩, ⟨%f14, %hf14, H14⟩, ⟨%f15, %hf15, H15⟩⟩, Hk⟩
  sl_exec (disch := first | sl_exact h1 | sl_exact h2 | sl_exact h3 | sl_exact h4 | sl_exact h5 | sl_exact h6)
  sl_step
  have e0 := (B.x.view.readAt_full f0 inb_S2000x512_S2000x512_0_0).trans hf0
  have e1 := (B.w.view.readAt_full f1 inb_S512x128_S512x128_0_0).trans hf1
  have ea := B.acc.view.readAt_unit f12 inb_S2x128_S1x128_0_0 rfl inb_S2x128_S1x128_0_0
  have eb := B.acc.view.readAt_unit f12 inb_S2x128_S1x128_1_0 rfl inb_S2x128_S1x128_1_0
  rw [hf12] at ea eb
  iapply Hk
  rw [← hP]
  iapply (B.fold c I ⟨S.o, accNext I S.acc, S.yh, S.att, xcPut (k0_off1 i) I.x S.xc⟩ hf0 hf1 hf2 hf3 hf4 hf5 hf6 hf7 hf8 hf9 hf10 hf11 ?_ hf13 hf14 ?_)
  rotate_left 2
  · iframe
  · exact read_accNext B I _ hf12 e0 e1 ea eb
  · exact read_xcPut B _ _ hf15 e0

/-- Case C (points 21, 22, 23): the sums grow, nothing else changes. -/
theorem runs_C (c : Dev nD) (i : grid0.Coords) (B : Bufs) (I : Ins F) (S : Scr F)
    (h1 : k0_cond1 i = 1#1)
    (h2 : ¬ k0_cond2 i = 1#1)
    (h3 : ¬ (Scalar.cmpi .ne (Scalar.extui (Scalar.cmpi .eq (BitVec.ofNat 32 (i 1).val) 0#32)) 0#32) = 1#1)
    (h4 : (Scalar.cmpi .ne (Scalar.extui (Scalar.cmpi .sgt (BitVec.ofNat 32 (i 1).val) 0#32)) 0#32) = 1#1)
    (h5 : ¬ (Scalar.cmpi .ne (Scalar.extui (Scalar.cmpi .eq (BitVec.ofNat 32 (i 1).val) 24#32)) 0#32) = 1#1)
    (h6 : ¬ k0_cond6 i = 1#1) :
    Runs c i B I S ⟨S.o, accNext I S.acc, S.yh, S.att, S.xc⟩ := by
  intro E K
  generalize hP : iprop(B.ins c I ∗ B.scr c ⟨S.o, accNext I S.acc, S.yh, S.att, S.xc⟩) = P
  simp only [Bufs.body, cc0__fused_body_eq_skeleton]; unfold cc0__fused_body_skel
  unfold Bufs.ins Bufs.scr owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f11, %hf11, H11⟩, ⟨%f12, %hf12, H12⟩, ⟨%f13, %hf13, H13⟩, ⟨%f14, %hf14, H14⟩, ⟨%f15, %hf15, H15⟩⟩, Hk⟩
  sl_exec (disch := first | sl_exact h1 | sl_exact h2 | sl_exact h3 | sl_exact h4 | sl_exact h5 | sl_exact h6)
  sl_step
  have e0 := (B.x.view.readAt_full f0 inb_S2000x512_S2000x512_0_0).trans hf0
  have e1 := (B.w.view.readAt_full f1 inb_S512x128_S512x128_0_0).trans hf1
  have ea := B.acc.view.readAt_unit f12 inb_S2x128_S1x128_0_0 rfl inb_S2x128_S1x128_0_0
  have eb := B.acc.view.readAt_unit f12 inb_S2x128_S1x128_1_0 rfl inb_S2x128_S1x128_1_0
  rw [hf12] at ea eb
  iapply Hk
  rw [← hP]
  iapply (B.fold c I ⟨S.o, accNext I S.acc, S.yh, S.att, S.xc⟩ hf0 hf1 hf2 hf3 hf4 hf5 hf6 hf7 hf8 hf9 hf10 hf11 ?_ hf13 hf14 hf15)
  rotate_left 1
  · iframe
  exact read_accNext B I _ hf12 e0 e1 ea eb

/-- Case D (the last point of the first sweep): the sums are completed and the attention vector is computed. -/
theorem runs_D (c : Dev nD) (i : grid0.Coords) (B : Bufs) (I : Ins F) (S : Scr F)
    (h1 : k0_cond1 i = 1#1)
    (h2 : ¬ k0_cond2 i = 1#1)
    (h3 : ¬ (Scalar.cmpi .ne (Scalar.extui (Scalar.cmpi .eq (BitVec.ofNat 32 (i 1).val) 0#32)) 0#32) = 1#1)
    (h4 : (Scalar.cmpi .ne (Scalar.extui (Scalar.cmpi .sgt (BitVec.ofNat 32 (i 1).val) 0#32)) 0#32) = 1#1)
    (h5 : (Scalar.cmpi .ne (Scalar.extui (Scalar.cmpi .eq (BitVec.ofNat 32 (i 1).val) 24#32)) 0#32) = 1#1)
    (h6 : ¬ k0_cond6 i = 1#1) :
    Runs c i B I S ⟨S.o, accNext I S.acc, S.yh, attOf I (accRow0 (accNext I S.acc)) (accRow1 (accNext I S.acc)) S.yh, S.xc⟩ := by
  intro E K
  generalize hP : iprop(B.ins c I ∗ B.scr c ⟨S.o, accNext I S.acc, S.yh, attOf I (accRow0 (accNext I S.acc)) (accRow1 (accNext I S.acc)) S.yh, S.xc⟩) = P
  simp only [Bufs.body, cc0__fused_body_eq_skeleton]; unfold cc0__fused_body_skel
  unfold Bufs.ins Bufs.scr owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f11, %hf11, H11⟩, ⟨%f12, %hf12, H12⟩, ⟨%f13, %hf13, H13⟩, ⟨%f14, %hf14, H14⟩, ⟨%f15, %hf15, H15⟩⟩, Hk⟩
  simp only [k0_part1_eq_skeleton, k0_part2_eq_skeleton, k0_part3_eq_skeleton, k0_part4_eq_skeleton]
  sl_exec (disch := first | sl_exact h1 | sl_exact h2 | sl_exact h3 | sl_exact h4 | sl_exact h5 | sl_exact h6)
  sl_step
  have e0 := (B.x.view.readAt_full f0 inb_S2000x512_S2000x512_0_0).trans hf0
  have e1 := (B.w.view.readAt_full f1 inb_S512x128_S512x128_0_0).trans hf1
  have ea := B.acc.view.readAt_unit f12 inb_S2x128_S1x128_0_0 rfl inb_S2x128_S1x128_0_0
  have eb := B.acc.view.readAt_unit f12 inb_S2x128_S1x128_1_0 rfl inb_S2x128_S1x128_1_0
  rw [hf12] at ea eb
  have e2 := (B.b.view.readAt_full f2 inb_S1x128_S1x128_0_0).trans hf2
  have e3 := (B.g1.view.readAt_full f3 inb_S1x128_S1x128_0_0).trans hf3
  have e4 := (B.e1.view.readAt_full f4 inb_S1x128_S1x128_0_0).trans hf4
  have e5 := (B.wd.view.readAt_full f5 inb_S128x128_S128x128_0_0).trans hf5
  have e6 := (B.wb.view.readAt_full f6 inb_S128x128_S128x128_0_0).trans hf6
  have e7 := (B.g2.view.readAt_full f7 inb_S1x128_S1x128_0_0).trans hf7
  have e8 := (B.e2.view.readAt_full f8 inb_S1x128_S1x128_0_0).trans hf8
  have e9 := (B.wa.view.readAt_full f9 inb_S128x512_S128x512_0_0).trans hf9
  have e10 := (B.ba.view.readAt_full f10 inb_S1x512_S1x512_0_0).trans hf10
  have e13 := (B.yh.view.readAt_full f13 inb_S128x128_S128x128_0_0).trans hf13
  iapply Hk
  rw [← hP]
  iapply (B.fold c I ⟨S.o, accNext I S.acc, S.yh, attOf I (accRow0 (accNext I S.acc)) (accRow1 (accNext I S.acc)) S.yh, S.xc⟩ hf0 hf1 hf2 hf3 hf4 hf5 hf6 hf7 hf8 hf9 hf10 hf11 ?_ hf13 ?_ hf15)
  rotate_left 2
  · iframe
  · exact read_accNext B I _ hf12 e0 e1 ea eb
  · have er0 : runs_D.sl.v30 c B f0 f1 f12 = accRow0 (accNext I S.acc) := by
      rw [accRow0_accNext]
      unfold runs_D.sl.v30 runs_D.sl.H12_2 runs_D.sl.v33
      refine (View.readAt_unit B.acc.view _ inb_S2x128_S1x128_0_0 rfl inb_S2x128_S1x128_0_0).trans ?_
      rw [View.read_writes_cons_put _ _ _ _ _ rfl, View.read_writes_cons_put _ _ _ _ _ rfl, e0, e1, ea]
      exact (VecWindow.window_put_of_disjoint _ _ _ _ _ _ _ 0 (.inl (by decide))).trans (VecWindow.window_put_same _ _ _ _ _)
    have er1 : runs_D.sl.v31 c B f0 f1 f12 = accRow1 (accNext I S.acc) := by
      rw [accRow1_accNext]
      unfold runs_D.sl.v31 runs_D.sl.H12_2 runs_D.sl.v33
      refine (View.readAt_unit B.acc.view _ inb_S2x128_S1x128_1_0 rfl inb_S2x128_S1x128_1_0).trans ?_
      rw [View.read_writes_cons_put _ _ _ _ _ rfl, e0, e1, eb]
      exact VecWindow.window_put_same _ _ _ _ _
    unfold runs_D.sl.r_5 runs_D.sl.r_4 runs_D.sl.r_3 runs_D.sl.r_2 runs_D.sl.r_1 runs_D.sl.r
    rw [er0, er1, e2, e3, e4, e5, e6, e7, e8, e9, e10, e13]
    exact View.read_writes_full _ _ _ _ _

/-- Case E (the second sweep's first 21 points): the output is the cached block scaled by the attention vector. -/
theorem runs_E (c : Dev nD) (i : grid0.Coords) (B : Bufs) (I : Ins F) (S : Scr F)
    (h1 : ¬ k0_cond1 i = 1#1)
    (h6 : k0_cond6 i = 1#1)
    (h7 : k0_cond7 i = 1#1)
    (h8 : ¬ k0_cond8 i = 1#1) :
    Runs c i B I S ⟨k0_pay12 (VecWindow.window (s := S21x2000x512) S.xc (k0_off2 i) S1x2000x512.size (k0_off2_inb i h6 h7)) S.att, S.acc, S.yh, S.att, S.xc⟩ := by
  intro E K
  generalize hP : iprop(B.ins c I ∗ B.scr c ⟨k0_pay12 (VecWindow.window (s := S21x2000x512) S.xc (k0_off2 i) S1x2000x512.size (k0_off2_inb i h6 h7)) S.att, S.acc, S.yh, S.att, S.xc⟩) = P
  simp only [Bufs.body, cc0__fused_body_eq_skeleton]; unfold cc0__fused_body_skel
  unfold Bufs.ins Bufs.scr owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f11, %hf11, H11⟩, ⟨%f12, %hf12, H12⟩, ⟨%f13, %hf13, H13⟩, ⟨%f14, %hf14, H14⟩, ⟨%f15, %hf15, H15⟩⟩, Hk⟩
  sl_exec (disch := first | sl_exact h1 | sl_exact h6 | sl_exact h7 | sl_exact h8)
  sl_step
  iapply Hk
  rw [← hP]
  iapply (B.fold c I ⟨k0_pay12 (VecWindow.window (s := S21x2000x512) S.xc (k0_off2 i) S1x2000x512.size (k0_off2_inb i h6 h7)) S.att, S.acc, S.yh, S.att, S.xc⟩ hf0 hf1 hf2 hf3 hf4 hf5 hf6 hf7 hf8 hf9 hf10 ?_ hf12 hf13 hf14 hf15)
  rotate_left 1
  · iframe
  have ea := (B.att.view.readAt_full f14 inb_S1x512_S1x512_0_0).trans hf14
  rw [View.read_writes_full, ea, View.readAt_unit _ _ _ rfl (k0_off2_inb i h6 h7), hf15]

/-- Case F (the last 4 points): the output is the block scaled by the attention vector. -/
theorem runs_F (c : Dev nD) (i : grid0.Coords) (B : Bufs) (I : Ins F) (S : Scr F)
    (h1 : ¬ k0_cond1 i = 1#1)
    (h6 : k0_cond6 i = 1#1)
    (h7 : ¬ k0_cond7 i = 1#1)
    (h8 : k0_cond8 i = 1#1) :
    Runs c i B I S ⟨k0_pay13 I.x S.att, S.acc, S.yh, S.att, S.xc⟩ := by
  intro E K
  generalize hP : iprop(B.ins c I ∗ B.scr c ⟨k0_pay13 I.x S.att, S.acc, S.yh, S.att, S.xc⟩) = P
  simp only [Bufs.body, cc0__fused_body_eq_skeleton]; unfold cc0__fused_body_skel
  unfold Bufs.ins Bufs.scr owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨⟨%f11, %hf11, H11⟩, ⟨%f12, %hf12, H12⟩, ⟨%f13, %hf13, H13⟩, ⟨%f14, %hf14, H14⟩, ⟨%f15, %hf15, H15⟩⟩, Hk⟩
  sl_exec (disch := first | sl_exact h1 | sl_exact h6 | sl_exact h7 | sl_exact h8)
  sl_step
  iapply Hk
  rw [← hP]
  iapply (B.fold c I ⟨k0_pay13 I.x S.att, S.acc, S.yh, S.att, S.xc⟩ hf0 hf1 hf2 hf3 hf4 hf5 hf6 hf7 hf8 hf9 hf10 ?_ hf12 hf13 hf14 hf15)
  rotate_left 1
  · iframe
  have e0 := (B.x.view.readAt_full f0 inb_S2000x512_S2000x512_0_0).trans hf0
  have ea := (B.att.view.readAt_full f14 inb_S1x512_S1x512_0_0).trans hf14
  rw [View.read_writes_full, e0, ea]

end Cert.KernelIdeal.Att

end
-- ==== Proof.Sweep.lean ====
/- The kernel's two sweeps over the blocks, point by point: what the scratch holds before each point, and what each point
   leaves. From them the kernel's run: it terminates, leaves its arguments, and its result array holds known blocks. -/
module

public import proofs.«01_k».proof.Proof.Body
public import proofs.«01_k».proof.Proof.Gen.KernelIdeal.Frame
public import Idealize.ShloMosaic.Lib.Pipeline.TableIdle

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point -/

/-- The first sweep takes the first 25 steps. -/
theorem cond1_iff : ∀ t : Fin cfg0.N, k0_cond1 (grid0.coords t) = 1#1 ↔ t.val < 25 :=
  (by decide +kernel : ∀ t : Fin grid0.N, k0_cond1 (grid0.coords t) = 1#1 ↔ t.val < 25)
/-- The first 21 blocks of the first sweep are kept. -/
theorem cond2_iff : ∀ t : Fin cfg0.N, k0_cond2 (grid0.coords t) = 1#1 ↔ t.val % 25 ≤ 20 :=
  (by decide +kernel : ∀ t : Fin grid0.N, k0_cond2 (grid0.coords t) = 1#1 ↔ t.val % 25 ≤ 20)
/-- The sums start at the first block. -/
theorem cond3_iff : ∀ t : Fin cfg0.N, (Scalar.cmpi .ne (Scalar.extui (Scalar.cmpi .eq (BitVec.ofNat 32 ((grid0.coords t) 1).val) 0#32)) 0#32) = 1#1 ↔ t.val % 25 = 0 :=
  (by decide +kernel : ∀ t : Fin grid0.N, (Scalar.cmpi .ne (Scalar.extui (Scalar.cmpi .eq (BitVec.ofNat 32 ((grid0.coords t) 1).val) 0#32)) 0#32) = 1#1 ↔ t.val % 25 = 0)
/-- They are added to at the later blocks. -/
theorem cond4_iff : ∀ t : Fin cfg0.N, (Scalar.cmpi .ne (Scalar.extui (Scalar.cmpi .sgt (BitVec.ofNat 32 ((grid0.coords t) 1).val) 0#32)) 0#32) = 1#1 ↔ 1 ≤ t.val % 25 :=
  (by decide +kernel : ∀ t : Fin grid0.N, (Scalar.cmpi .ne (Scalar.extui (Scalar.cmpi .sgt (BitVec.ofNat 32 ((grid0.coords t) 1).val) 0#32)) 0#32) = 1#1 ↔ 1 ≤ t.val % 25)
/-- They are finished at the last block. -/
theorem cond5_iff : ∀ t : Fin cfg0.N, (Scalar.cmpi .ne (Scalar.extui (Scalar.cmpi .eq (BitVec.ofNat 32 ((grid0.coords t) 1).val) 24#32)) 0#32) = 1#1 ↔ t.val % 25 = 24 :=
  (by decide +kernel : ∀ t : Fin grid0.N, (Scalar.cmpi .ne (Scalar.extui (Scalar.cmpi .eq (BitVec.ofNat 32 ((grid0.coords t) 1).val) 24#32)) 0#32) = 1#1 ↔ t.val % 25 = 24)
/-- The second sweep takes the last 25 steps. -/
theorem cond6_iff : ∀ t : Fin cfg0.N, k0_cond6 (grid0.coords t) = 1#1 ↔ 25 ≤ t.val :=
  (by decide +kernel : ∀ t : Fin grid0.N, k0_cond6 (grid0.coords t) = 1#1 ↔ 25 ≤ t.val)
/-- The first 21 blocks of the second sweep come from the kept ones. -/
theorem cond7_iff : ∀ t : Fin cfg0.N, k0_cond7 (grid0.coords t) = 1#1 ↔ t.val % 25 ≤ 20 :=
  (by decide +kernel : ∀ t : Fin grid0.N, k0_cond7 (grid0.coords t) = 1#1 ↔ t.val % 25 ≤ 20)
/-- The others are read again. -/
theorem cond8_iff : ∀ t : Fin cfg0.N, k0_cond8 (grid0.coords t) = 1#1 ↔ 21 ≤ t.val % 25 :=
  (by decide +kernel : ∀ t : Fin grid0.N, k0_cond8 (grid0.coords t) = 1#1 ↔ 21 ≤ t.val % 25)
/-- The cache's slot at a point is the point's place in its sweep, where it is stored -/
theorem off1_eq : ∀ t : Fin cfg0.N, k0_off1 (grid0.coords t) = ![t.val % 25, 0, 0] :=
  (by decide +kernel : ∀ t : Fin grid0.N, k0_off1 (grid0.coords t) = ![t.val % 25, 0, 0])
/-- and where it is read. -/
theorem off2_eq : ∀ t : Fin cfg0.N, k0_off2 (grid0.coords t) = ![t.val % 25, 0, 0] :=
  (by decide +kernel : ∀ t : Fin grid0.N, k0_off2 (grid0.coords t) = ![t.val % 25, 0, 0])
/-- The first sweep stores nothing into the result block -/
theorem idle11 : ∀ t : Fin cfg0.N, t.val < 25 → cfg0.idle 11 (grid0.coords t) = true :=
  (by decide +kernel : ∀ t : Fin grid0.N, t.val < 25 → idle0 11 (grid0.coords t) = true)
/-- and the second does at every point. -/
theorem live11 : ∀ t : Fin cfg0.N, 25 ≤ t.val → cfg0.idle 11 (grid0.coords t) = false :=
  (by decide +kernel : ∀ t : Fin grid0.N, 25 ≤ t.val → idle0 11 (grid0.coords t) = false)
/-- The result block is written back at the points of the second sweep only. -/
theorem flush11 : ∀ t : Fin cfg0.N, (cfg0.win 11).flush t = true ↔ 25 ≤ t.val :=
  (fun t => by
    rw [Pipeline.Window.flush_eq_flushF]
    revert t
    decide +kernel : ∀ t : Fin grid0.N, win0_11.flush t = true ↔ 25 ≤ t.val)

/-! ## What the scratch holds -/

/-- The grid's `k`-th point. -/
def pt (k : ℕ) : Fin cfg0.N := ⟨k % 50, by rw [show cfg0.N = 50 from N_0]; exact Nat.mod_lt _ (by decide)⟩

/-- The step with the number of a step is that step. -/
theorem pt_val (t : Fin cfg0.N) : pt t.val = t :=
  Fin.ext (Nat.mod_eq_of_lt (lt_of_lt_of_eq t.isLt (show cfg0.N = 50 from N_0)))

/-- The input blocks at a point. -/
def ins (c : Dev nD) (t : Fin cfg0.N) : Ins F :=
  ⟨iblk m c 0 t, iblk m c 1 t, iblk m c 2 t, iblk m c 3 t, iblk m c 4 t, iblk m c 5 t, iblk m c 6 t, iblk m c 7 t,
    iblk m c 8 t, iblk m c 9 t, iblk m c 10 t⟩

/-- The column sums of the down-projection over the first `k + 1` blocks, -/
def rowSum (c : Dev nD) : ℕ → Vec F S1x128 .f32
  | 0 => k0_pay6 (ins m c (pt 0)).x (ins m c (pt 0)).w
  | k + 1 => k0_pay9 (ins m c (pt (k + 1))).x (ins m c (pt (k + 1))).w (rowSum c k)

/-- and of its squares. -/
def rowSq (c : Dev nD) : ℕ → Vec F S1x128 .f32
  | 0 => k0_pay7 (ins m c (pt 0)).x (ins m c (pt 0)).w
  | k + 1 => k0_pay10 (ins m c (pt (k + 1))).x (ins m c (pt (k + 1))).w (rowSq c k)

/-- The down-projection's first 128 rows. -/
def headY (c : Dev nD) : Vec F S128x128 .f32 := k0_pay8 (ins m c (pt 0)).x (ins m c (pt 0)).w

/-- The attention vector. -/
def att (c : Dev nD) : Vec F S1x512 .f32 := attOf (ins m c (pt 24)) (rowSum m c 24) (rowSq m c 24) (headY m c)

/-- A cache slot is inside the cache. -/
theorem slot_inb {j : ℕ} (hj : j < 21) : ∀ a, (![j, 0, 0] : Fin 3 → ℕ) a + S1x2000x512.size a ≤ S21x2000x512.size a := by
  intro a
  fin_cases a
  · show j + 1 ≤ 21; omega
  · show 0 + 2000 ≤ 2000; omega
  · show 0 + 512 ≤ 512; omega

/-- A window of the cache at equal offsets. -/
theorem window_congr (z : Vec F S21x2000x512 .bf16) {off off' : Fin 3 → ℕ} (h : off = off')
    (inb : ∀ a, off a + S1x2000x512.size a ≤ S21x2000x512.size a) (inb' : ∀ a, off' a + S1x2000x512.size a ≤ S21x2000x512.size a) :
    VecWindow.window (s := S21x2000x512) z off S1x2000x512.size inb = VecWindow.window (s := S21x2000x512) z off' S1x2000x512.size inb' := by
  subst h; rfl

/-- What holds of the scratch before point `n`. -/
structure Good (c : Dev nD) (n : ℕ) (S : Scr F) : Prop where
  sums : ∀ k, min n 25 = k + 1 → accRow0 S.acc = rowSum m c k ∧ accRow1 S.acc = rowSq m c k ∧ S.yh = headY m c
  att : 25 ≤ n → S.att = att m c
  cache : ∀ j (hj : j < 21), j < n →
    VecWindow.window (s := S21x2000x512) S.xc ![j, 0, 0] S1x2000x512.size (slot_inb hj) = k0_pay2 (ins m c (pt j)).x

/-- The result block a point of the second sweep leaves. -/
def outBlk (c : Dev nD) (t : Fin cfg0.N) : Vec F S2000x512 .f32 :=
  if t.val % 25 ≤ 20 then k0_pay12 (k0_pay2 (ins m c (pt (t.val % 25))).x) (att m c) else k0_pay13 (ins m c t).x (att m c)

/-- Storing block `n` in the cache keeps the earlier slots and fills slot `n`. -/
theorem cache_put (c : Dev nD) (n : ℕ) (hn : n < 21) (z : Vec F S21x2000x512 .bf16)
    (hz : ∀ j (hj : j < 21), j < n →
      VecWindow.window (s := S21x2000x512) z ![j, 0, 0] S1x2000x512.size (slot_inb hj) = k0_pay2 (ins m c (pt j)).x)
    (j : ℕ) (hj : j < 21) (hjn : j < n + 1) :
    VecWindow.window (s := S21x2000x512) (xcPut ![n, 0, 0] (ins m c (pt n)).x z) ![j, 0, 0] S1x2000x512.size (slot_inb hj)
      = k0_pay2 (ins m c (pt j)).x := by
  unfold xcPut
  rcases Nat.lt_succ_iff_lt_or_eq.mp hjn with h | h
  · refine (VecWindow.window_put_of_disjoint _ _ _ _ _ _ _ 0 (.inl ?_)).trans (hz j hj h)
    show j + 1 ≤ n
    omega
  · subst h
    exact VecWindow.window_put_same _ _ _ _ _

/-- One point: from scratch as `Good` says the body leaves scratch as `Good` says of the next point, the result block
    as it was in the first sweep and at `outBlk` in the second. -/
theorem step (c : Dev nD) (t : Fin cfg0.N) (B : Bufs) (S : Scr F) (hS : Good m c t.val S) :
    ∃ S' : Scr F, Runs c (grid0.coords t) B (ins m c t) S S' ∧ Good m c (t.val + 1) S'
      ∧ (t.val < 25 → S'.o = S.o) ∧ (25 ≤ t.val → S'.o = outBlk m c t) := by
  have hN : t.val < 50 := lt_of_lt_of_eq t.isLt (show cfg0.N = 50 from N_0)
  have ept : pt t.val = t := pt_val t
  by_cases h1 : t.val < 25
  · have c1 := (cond1_iff t).mpr h1
    have c6 : ¬ k0_cond6 (grid0.coords t) = 1#1 := fun h => by have := (cond6_iff t).mp h; omega
    have em : t.val % 25 = t.val := Nat.mod_eq_of_lt h1
    have grow : 1 ≤ t.val → accRow0 (accNext (ins m c t) S.acc) = rowSum m c t.val
        ∧ accRow1 (accNext (ins m c t) S.acc) = rowSq m c t.val ∧ S.yh = headY m c := fun hp => by
      obtain ⟨k, hk⟩ : ∃ k, t.val = k + 1 := ⟨t.val - 1, by omega⟩
      obtain ⟨e0, e1, e2⟩ := hS.sums k (by omega)
      refine ⟨?_, ?_, e2⟩
      · rw [accRow0_accNext, e0, hk, rowSum, ← hk, ept]
      · rw [accRow1_accNext, e1, hk, rowSq, ← hk, ept]
    by_cases h2 : t.val ≤ 20
    · have c2 := (cond2_iff t).mpr (by omega)
      have c5 := mt (cond5_iff t).mp (by omega)
      have hc : ∀ j (hj : j < 21), j < t.val + 1 →
          VecWindow.window (s := S21x2000x512) (xcPut (k0_off1 (grid0.coords t)) (ins m c t).x S.xc) ![j, 0, 0] S1x2000x512.size (slot_inb hj)
            = k0_pay2 (ins m c (pt j)).x := by
        rw [off1_eq, em]
        conv in (ins m c t).x => rw [← ept]
        exact cache_put m c t.val (by omega) S.xc hS.cache
      by_cases h3 : t.val = 0
      · have c3 := (cond3_iff t).mpr (by omega)
        have c4 := mt (cond4_iff t).mp (by omega)
        have e0 : pt 0 = t := by rw [← h3, ept]
        refine ⟨_, runs_A c (grid0.coords t) B (ins m c t) S c1 c2 c3 c4 c5 c6, ⟨fun k hk => ?_, fun h => by omega, hc⟩, fun _ => rfl, fun h => by omega⟩
        obtain rfl : k = 0 := by omega
        refine ⟨?_, ?_, ?_⟩
        · rw [rowSum, e0]; exact accRow0_accInit _ _
        · rw [rowSq, e0]; exact accRow1_accInit _ _
        · rw [headY, e0]
      · have c3 := mt (cond3_iff t).mp (by omega)
        have c4 := (cond4_iff t).mpr (by omega)
        refine ⟨_, runs_B c (grid0.coords t) B (ins m c t) S c1 c2 c3 c4 c5 c6, ⟨fun k hk => ?_, fun h => by omega, hc⟩, fun _ => rfl, fun h => by omega⟩
        obtain rfl : k = t.val := by omega
        exact grow (by omega)
    · have c2 := mt (cond2_iff t).mp (by omega)
      have c3 := mt (cond3_iff t).mp (by omega)
      have c4 := (cond4_iff t).mpr (by omega)
      by_cases h5 : t.val = 24
      · have c5 := (cond5_iff t).mpr (by omega)
        refine ⟨_, runs_D c (grid0.coords t) B (ins m c t) S c1 c2 c3 c4 c5 c6, ⟨fun k hk => ?_, fun _ => ?_, fun j hj _ => hS.cache j hj (by omega)⟩, fun _ => rfl, fun h => by omega⟩
        · obtain rfl : k = t.val := by omega
          exact grow (by omega)
        · obtain ⟨g0, g1, g2⟩ := grow (by omega)
          show attOf _ _ _ _ = _
          rw [g0, g1, g2, h5]
          unfold att
          rw [← h5, ept]
      · have c5 := mt (cond5_iff t).mp (by omega)
        refine ⟨_, runs_C c (grid0.coords t) B (ins m c t) S c1 c2 c3 c4 c5 c6, ⟨fun k hk => ?_, fun h => by omega, fun j hj _ => hS.cache j hj (by omega)⟩, fun _ => rfl, fun h => by omega⟩
        obtain rfl : k = t.val := by omega
        exact grow (by omega)
  · have c1 := mt (cond1_iff t).mp h1
    have c6 := (cond6_iff t).mpr (by omega)
    have hg : ∀ o, Good m c (t.val + 1) ⟨o, S.acc, S.yh, S.att, S.xc⟩ := fun o =>
      ⟨fun k hk => hS.sums k (by omega), fun _ => hS.att (by omega), fun j hj _ => hS.cache j hj (by omega)⟩
    by_cases h7 : t.val % 25 ≤ 20
    · have c7 := (cond7_iff t).mpr h7
      have c8 := mt (cond8_iff t).mp (by omega)
      refine ⟨_, runs_E c (grid0.coords t) B (ins m c t) S c1 c6 c7 c8, hg _, fun h => by omega, fun _ => ?_⟩
      show k0_pay12 _ _ = _
      rw [outBlk, if_pos h7, hS.att (by omega), ← hS.cache (t.val % 25) (by omega) (by omega)]
      exact congrArg (fun z => k0_pay12 z _) (window_congr _ (off2_eq t) _ _)
    · have c7 := mt (cond7_iff t).mp h7
      have c8 := (cond8_iff t).mpr (by omega)
      refine ⟨_, runs_F c (grid0.coords t) B (ins m c t) S c1 c6 c7 c8, hg _, fun h => by omega, fun _ => ?_⟩
      show k0_pay13 _ _ = _
      rw [outBlk, if_neg h7, hS.att (by omega)]

end Cert.KernelIdeal.Att

end
-- ==== Proof.Run.lean ====
/- The kernel's run: it terminates and leaves its arguments, and its result array is the input, each row times the
   attention vector, as the second sweep's blocks say. -/
module

public import proofs.«01_k».proof.Proof.Sweep
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the body runs on at a point. -/
def bufs (t : Fin cfg0.N) : Bufs where
  x := win0_0.stage (cfg0.slots t 0)
  hx := hstage0_0 ((cfg0.slots t 0).cast nbuf0_0)
  w := win0_1.stage (cfg0.slots t 1)
  hw := hstage0_1 ((cfg0.slots t 1).cast nbuf0_1)
  b := win0_2.stage (cfg0.slots t 2)
  hb := hstage0_2 ((cfg0.slots t 2).cast nbuf0_2)
  g1 := win0_3.stage (cfg0.slots t 3)
  hg1 := hstage0_3 ((cfg0.slots t 3).cast nbuf0_3)
  e1 := win0_4.stage (cfg0.slots t 4)
  he1 := hstage0_4 ((cfg0.slots t 4).cast nbuf0_4)
  wd := win0_5.stage (cfg0.slots t 5)
  hwd := hstage0_5 ((cfg0.slots t 5).cast nbuf0_5)
  wb := win0_6.stage (cfg0.slots t 6)
  hwb := hstage0_6 ((cfg0.slots t 6).cast nbuf0_6)
  g2 := win0_7.stage (cfg0.slots t 7)
  hg2 := hstage0_7 ((cfg0.slots t 7).cast nbuf0_7)
  e2 := win0_8.stage (cfg0.slots t 8)
  he2 := hstage0_8 ((cfg0.slots t 8).cast nbuf0_8)
  wa := win0_9.stage (cfg0.slots t 9)
  hwa := hstage0_9 ((cfg0.slots t 9).cast nbuf0_9)
  ba := win0_10.stage (cfg0.slots t 10)
  hba := hstage0_10 ((cfg0.slots t 10).cast nbuf0_10)
  o := win0_11.stage (cfg0.slots t 11)
  ho := hstage0_11 ((cfg0.slots t 11).cast nbuf0_11)
  acc := Memref.whole cc0_scratch0
  hacc := Memref.isWhole_whole _
  yh := Memref.whole cc0_scratch1
  hyh := Memref.isWhole_whole _
  att := Memref.whole cc0_scratch2
  hatt := Memref.isWhole_whole _
  xc := Memref.whole cc0_scratch3
  hxc := Memref.isWhole_whole _

/-- The scratch buffers, owned at the contents of `S`. -/
def scratch (c : Dev nD) (S : Scr F) : sProp 𝕄 :=
  iprop(owns (c : Thread nD τ) (Memref.whole cc0_scratch0) fullShare S.acc ∗ owns (c : Thread nD τ) (Memref.whole cc0_scratch1) fullShare S.yh
    ∗ owns (c : Thread nD τ) (Memref.whole cc0_scratch2) fullShare S.att ∗ owns (c : Thread nD τ) (Memref.whole cc0_scratch3) fullShare S.xc)

/-- Before point `n`: the scratch as `Good` says, and the generator register at some state. -/
def inv (c : Dev nD) (n : ℕ) : sProp 𝕄 :=
  iprop((∃ S : Scr F, ⌜Good m c n S⌝ ∗ scratch c S) ∗ (∃ r, prngReg c r))

/-- The proof data: the inputs' blocks stay, the result block is `outBlk`, the invariant is `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk m c t
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem leaves0_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (win0_8.stage (cfg0.slots t 8)) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (win0_9.stage (cfg0.slots t 9)) fullShare (iblk m c 9 t) := by
  unfold Dat.leavesExact; rw [show cfg0.idle 9 (grid0.coords t) = false from rfl, after0_9]
theorem leaves0_10 (c : Dev nD) (t : Fin cfg0.N) : (dats m 0 c).leavesExact 10 t = owns (c : Thread nD τ) (win0_10.stage (cfg0.slots t 10)) fullShare (iblk m c 10 t) := by
  unfold Dat.leavesExact; rw [show cfg0.idle 10 (grid0.coords t) = false from rfl, after0_10]

/-- In the first sweep the result block is handed back as it was found, -/
theorem leaves0_11_idle (c : Dev nD) (t : Fin cfg0.N) (ht : t.val < 25) :
    (dats m 0 c).leavesExact 11 t
      = iprop(∃ d, owns (c : Thread nD τ) (win0_11.stage (cfg0.slots t 11)) fullShare ((dats m 0 c).before 11 t d)) :=
  Dat.leavesExact_idle _ 11 t (idle11 t ht) (by
    rw [Bool.eq_false_iff]; exact fun h => absurd ((flush11 t).mp h) (by omega))

/-- and in the second at `outBlk`. -/
theorem leaves0_11_live (c : Dev nD) (t : Fin cfg0.N) (ht : 25 ≤ t.val) :
    (dats m 0 c).leavesExact 11 t = owns (c : Thread nD τ) (win0_11.stage (cfg0.slots t 11)) fullShare (outBlk m c t) := by
  unfold Dat.leavesExact; rw [live11 t ht, after0_11]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- The body at any point: one application of `step`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10,
    leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl,
    show (dats m 0 c).Φ t.succ = inv m c (t.val + 1) from rfl, show (dats m 0 c).Φ t.castSucc = inv m c t.val from rfl,
    show (bodyAt0 t : Prog (TpuEff nD τ sig (Elt F) Λ₀ .tc) PUnit) = (bufs t).body (grid0.coords t) from rfl]
  unfold inv scratch
  iintro ⟨⟨⟨%S, %hS, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨S', hrun, hgood, hidle, hlive⟩ := step m c t (bufs t) ⟨(dats m 0 c).before 11 t d11, S.acc, S.yh, S.att, S.xc⟩ ⟨hS.sums, hS.att, hS.cache⟩
  iapply (hrun Set.univ _)
  unfold Bufs.ins Bufs.scr
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 HS0 HS1 HS2 HS3]
  · isplitl [H11]; · iexact H11
    isplitl [HS0]; · iexact HS0
    isplitl [HS1]; · iexact HS1
    isplitl [HS2]; · iexact HS2
    iexact HS3
  iintro ⟨⟨H0, H1, H2, H3, H4, H5, H6, H7, H8, H9, H10⟩, ⟨H11, HS0, HS1, HS2, HS3⟩⟩
  isplitl [HS0 HS1 HS2 HS3 Hg]
  · isplitl [HS0 HS1 HS2 HS3]
    · iexists S'
      isplitr
      · ipureintro; exact hgood
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  by_cases ht : t.val < 25
  · rw [leaves0_11_idle m c t ht, hidle ht]
    iexists d11; iexact H11
  · rw [leaves0_11_live m c t (by omega), hlive (by omega)]
    iexact H11

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the region has of the scratch at its ends: every buffer at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The invariant before the first point asks nothing of the contents, -/
theorem hin (c : Dev nD) : Pipeline.ΦA spec0 c ⊢ (dats m 0 c).Φ 0 := by
  rw [show (dats m 0 c).Φ 0 = inv m c 0 from rfl, PhiA0_eq]
  unfold inv scratch
  iintro ⟨⟨⟨%a, H0⟩, ⟨%y, H1⟩, ⟨%t, H2⟩, ⟨%z, H3⟩⟩, Hg⟩
  isplitl [H0 H1 H2 H3]
  · iexists (⟨outBlk m c (pt 0), a, y, t, z⟩ : Scr F)
    isplitr
    · ipureintro
      exact ⟨fun k hk => by omega, fun h => by omega, fun j _ h => by omega⟩
    iframe
  iexact Hg

/-- and after the last the contents are forgotten. -/
theorem hout (c : Dev nD) : (dats m 0 c).Φ (Fin.last cfg0.N) ⊢ Pipeline.ΦA spec0 c := by
  rw [show (dats m 0 c).Φ (Fin.last cfg0.N) = inv m c (Fin.last cfg0.N).val from rfl, PhiA0_eq]
  unfold inv scratch
  iintro ⟨⟨%S, -, H0, H1, H2, H3⟩, Hg⟩
  isplitl [H0 H1 H2 H3]
  · isplitl [H0]
    · iexists _; iexact H0
    isplitl [H1]
    · iexists _; iexact H1
    isplitl [H2]
    · iexists _; iexact H2
    iexists _; iexact H3
  iexact Hg

set_option backward.isDefEq.respectTransparency.types false in
/-- The launch: the arrays end as the proof data says, and every semaphore counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) ((θ_run defs _ _).mono (fun _ h => h.1) (run_main m ρ))

/-- The frame claim's post: the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main m ρ))

/-! ## The result -/

/-- The result window's index at a point of the second sweep: the point's place in the sweep. -/
theorem index11 : ∀ t : Fin cfg0.N, 25 ≤ t.val → (cfg0.win 11).index t = ![t.val - 25, 0] :=
  (by decide +kernel : ∀ t : Fin grid0.N, 25 ≤ t.val → win0_11.index t = ![t.val - 25, 0])

end Cert.KernelIdeal.Att

end
-- ==== Proof.Frames.lean ====
/- The frame claims. -/
module

public import proofs.«01_k».proof.Defs
public import proofs.«01_k».proof.Proof.Gen.Kernel
public import proofs.«01_k».proof.Proof.Run
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts

/-- The kernel, read over the extended reals, terminates, leaves its arguments and ends with every counter at zero. -/
theorem quiescent_ideal : Cert.quiescent_KernelIdeal := fun m g _ => Cert.KernelIdeal.Att.frame (F := Ideal) m g

/-- Both prints of the kernel have the same body table, -/
theorem table_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- the same table with the pipeline's own labels, -/
theorem defs_same : Cert.Kernel.defs (F := Bits) = Cert.KernelIdeal.defs (F := Bits) :=
  congrArg (Pipeline.defs (Cert.KernelIdeal.pcfgs (F := Bits))) table_same

/-- and the same program. -/
theorem main_same : Cert.Kernel.main (F := Bits) = Cert.KernelIdeal.main (F := Bits) := rfl

/-- So the kernel's own print runs as the other does. -/
theorem run_same (s) : θ_run (Cert.Kernel.defs (F := Bits)) (onTc (τ := Cert.Kernel.τ) (Cert.Kernel.main (F := Bits))) s
    = θ_run (Cert.KernelIdeal.defs (F := Bits)) (onTc (τ := Cert.KernelIdeal.τ) (Cert.KernelIdeal.main (F := Bits))) s :=
  congrArg (fun d => θ_run d (onTc (τ := Cert.KernelIdeal.τ) (Cert.KernelIdeal.main (F := Bits))) s) defs_same

/-- The kernel's own print terminates, leaves its arguments and ends with every semaphore counter at zero. -/
theorem quiescent_bits : Cert.quiescent_Kernel := fun m g _ => by
  have h := Cert.KernelIdeal.Att.frame (F := Bits) m g
  rw [← run_same] at h
  exact h

/-- The reference terminates, leaves its arguments, and has no semaphore. -/
theorem quiescent_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Spec.lean ====
module

public import Idealize.ShloMosaic.PureOps.Ideal.Laws
public import Idealize.ShloMosaic.Lib.IdealHost

@[expose] public section

/-! The value both programs compute, as a function of real argument arrays, and the laws of the
extended reals that carry each program's arithmetic to it. Batch normalisation and group pooling have
real inputs and stay real; from the second normalisation's scale on, the value is an extended real. -/

noncomputable section

namespace Cert.Att

open Idealize.ShloMosaic

/-! ## Constants and operations on real numbers -/

/-- The sum of finitely many reals, taken in the extended reals, is their real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Division of reals by a nonzero real is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The float word of 2. -/
theorem two : Ideal.ofBits .f32 0x40000000#32 = ((2 : ℝ) : EReal) := by
  simp [Ideal.ofBits, Ideal.ieee, -EReal.coe_mul]; norm_num

/-- The float word of 8. -/
theorem eight : Ideal.ofBits .f32 0x41000000#32 = ((8 : ℝ) : EReal) := by
  simp [Ideal.ofBits, Ideal.ieee, -EReal.coe_mul]; norm_num

/-- The float word of 16. -/
theorem sixteen : Ideal.ofBits .f32 0x41800000#32 = ((16 : ℝ) : EReal) := by
  simp [Ideal.ofBits, Ideal.ieee, -EReal.coe_mul]; norm_num

/-- The float word of 1/16. -/
theorem sixteenth : Ideal.ofBits .f32 0x3D800000#32 = ((1 / 16 : ℝ) : EReal) := by
  simp [Ideal.ofBits, Ideal.ieee, -EReal.coe_mul]; norm_num

/-- The float word of the number of samples. -/
theorem rows : Ideal.ofBits .f32 0x47435000#32 = ((50000 : ℝ) : EReal) := by
  simp [Ideal.ofBits, Ideal.ieee, -EReal.coe_mul]; norm_num

/-- The float word of the number of edges. -/
theorem edges : Ideal.ofBits .f32 0x42800000#32 = ((64 : ℝ) : EReal) := by
  simp [Ideal.ofBits, Ideal.ieee, -EReal.coe_mul]; norm_num

/-- The small number both programs add to a variance. -/
def eps : ℝ := (Ideal.ofBits .f32 0x3727C5AC#32).toReal

/-- The small constant under the square roots is a positive real number. -/
theorem eps_spec : Ideal.ofBits .f32 0x3727C5AC#32 = (eps : EReal) ∧ 0 < eps := by
  obtain ⟨r, hr, h⟩ : ∃ r : ℝ, 0 < r ∧ Ideal.ofBits .f32 0x3727C5AC#32 = (r : EReal) := by
    refine ⟨_, ?_, by simp [Ideal.ofBits, Ideal.ieee, -EReal.coe_mul]; rfl⟩
    norm_num
  exact ⟨by rw [eps, h, EReal.toReal_coe], by rw [eps, h, EReal.toReal_coe]; exact hr⟩

/-! ## Batch normalisation of reals -/

/-- The mean of `n` reals. -/
def mean {n : ℕ} (v : Fin n → ℝ) : ℝ := (∑ i, v i) / n

/-- Their biased variance. -/
def var {n : ℕ} (v : Fin n → ℝ) : ℝ := (∑ i, (v i - mean v) * (v i - mean v)) / n

/-- The deviation of one of them from the mean, in units of the square root of variance plus `eps`. -/
def norm {n : ℕ} (v : Fin n → ℝ) (i : Fin n) : ℝ := (v i - mean v) / √(var v + eps)

/-- A variance is not negative. -/
theorem var_nonneg {n : ℕ} (v : Fin n → ℝ) : 0 ≤ var v :=
  div_nonneg (Finset.sum_nonneg fun _ _ => mul_self_nonneg _) n.cast_nonneg

/-- The variance is the mean of the squares less the square of the mean. -/
theorem var_eq {n : ℕ} (hn : 0 < n) (v : Fin n → ℝ) : (∑ i, v i * v i) / n - mean v * mean v = var v := by
  have h0 : (n : ℝ) ≠ 0 := by exact_mod_cast hn.ne'
  have hs : ∑ i, v i = n * mean v := by rw [mean]; field_simp
  have he : ∑ i, (v i - mean v) * (v i - mean v) = (∑ i, v i * v i) - n * (mean v * mean v) := by
    have : ∀ i, (v i - mean v) * (v i - mean v) = v i * v i - 2 * mean v * v i + mean v * mean v := fun i => by ring
    simp only [this, Finset.sum_add_distrib, Finset.sum_sub_distrib, ← Finset.mul_sum, hs, Finset.sum_const,
      Finset.card_univ, Fintype.card_fin, nsmul_eq_mul]
    ring
  rw [var, he]
  field_simp

/-- From the sum of squares: a normalised value by multiplication with the reciprocal square root. -/
theorem norm_of_squares {n : ℕ} (hn : 0 < n) (v : Fin n → ℝ) (i : Fin n) {a m s c : EReal} (ha : a = (v i : EReal))
    (hm : m = (mean v : EReal)) (hs : s = ((∑ i, v i * v i : ℝ) : EReal)) (hc : c = ((n : ℝ) : EReal)) :
    (a - m) * Ideal.rsqrt (Ideal.div s c - m * m + Ideal.ofBits .f32 0x3727C5AC#32) = (norm v i : EReal) := by
  have h0 : (n : ℝ) ≠ 0 := by exact_mod_cast hn.ne'
  have hv := add_pos_of_nonneg_of_pos (var_nonneg v) eps_spec.2
  rw [ha, hm, hs, hc, eps_spec.1, div_real _ h0, ← EReal.coe_mul, ← EReal.coe_sub, ← EReal.coe_sub, ← EReal.coe_add,
    var_eq hn, Ideal.rsqrt_coe, if_neg hv.not_gt, if_neg hv.ne', ← EReal.coe_mul, norm, div_eq_mul_inv]

/-- From the deviations: a normalised value by division by the square root. -/
theorem norm_of_deviations {n : ℕ} (v : Fin n → ℝ) (i : Fin n) {a m d : EReal} (ha : a = (v i : EReal))
    (hm : m = (mean v : EReal)) (hd : d = (var v : EReal)) :
    Ideal.div (a - m) (Ideal.sqrt (d + Ideal.ofBits .f32 0x3727C5AC#32)) = (norm v i : EReal) := by
  have hv := add_pos_of_nonneg_of_pos (var_nonneg v) eps_spec.2
  rw [ha, hm, hd, eps_spec.1, ← EReal.coe_sub, ← EReal.coe_add, Ideal.sqrt_coe, if_neg hv.not_gt,
    div_real _ (Real.sqrt_pos.mpr hv).ne', norm]

/-- The mean of `n` reals, computed in the extended reals. -/
theorem mean_coe {n : ℕ} (hn : 0 < n) (v : Fin n → ℝ) {c : EReal} (hc : c = ((n : ℝ) : EReal)) :
    Ideal.div (∑ i, (v i : EReal)) c = (mean v : EReal) := by
  rw [hc, coe_sum, div_real _ (by exact_mod_cast hn.ne'), mean]

/-- The variance from the deviations, computed in the extended reals. -/
theorem var_coe {n : ℕ} (hn : 0 < n) (v : Fin n → ℝ) {m c : EReal} (hm : m = (mean v : EReal))
    (hc : c = ((n : ℝ) : EReal)) :
    Ideal.div (∑ i, ((v i : EReal) - m) * ((v i : EReal) - m)) c = (var v : EReal) := by
  simp only [hm, ← EReal.coe_sub, ← EReal.coe_mul]
  rw [hc, coe_sum, div_real _ (by exact_mod_cast hn.ne'), var]

/-- The sum of squares of `y i + b` from the sums of `y` and of its squares. -/
theorem squares_shift {n : ℕ} (y : Fin n → ℝ) (b : ℝ) :
    (∑ i, y i * y i) + 2 * b * (∑ i, y i) + n * b * b = ∑ i, (y i + b) * (y i + b) := by
  have : ∀ i, (y i + b) * (y i + b) = y i * y i + 2 * b * y i + b * b := fun i => by ring
  simp only [this, Finset.sum_add_distrib, ← Finset.mul_sum, Finset.sum_const, Finset.card_univ, Fintype.card_fin,
    nsmul_eq_mul]
  ring

/-- The mean of `y i + b` from the mean of `y`. -/
theorem mean_shift {n : ℕ} (hn : 0 < n) (y : Fin n → ℝ) (b : ℝ) : (∑ i, y i) / n + b = mean fun i => y i + b := by
  have h0 : (n : ℝ) ≠ 0 := by exact_mod_cast hn.ne'
  rw [mean, Finset.sum_add_distrib, Finset.sum_const, Finset.card_univ, Fintype.card_fin, nsmul_eq_mul]
  field_simp

/-! ## The value -/

/-- The sigmoid-weighted linear unit. -/
def silu (r : ℝ) : ℝ := r * (1 + Real.exp (-r))⁻¹

/-- The activation of a real number, computed in the extended reals. -/
theorem silu_coe (r : ℝ) : (r : EReal) * Ideal.logistic (r : EReal) = (silu r : EReal) := by
  rw [Ideal.logistic_coe, ← EReal.coe_mul, silu]

/-- The real argument arrays: samples `x`, first layer `w`, `b`, `g`, `e`, edge weights `u`. -/
structure Args where
  x : Fin 50000 → Fin 512 → ℝ
  w : Fin 128 → Fin 512 → ℝ
  b : Fin 128 → ℝ
  g : Fin 128 → ℝ
  e : Fin 128 → ℝ
  u : Fin 128 → Fin 256 → ℝ

namespace Args

variable (A : Args)

/-- The first layer before its bias. -/
def lin (r : Fin 50000) (k : Fin 128) : ℝ := ∑ l, A.x r l * A.w k l

/-- The first layer, normalised over the samples, scaled and shifted. -/
def hid (r : Fin 50000) (k : Fin 128) : ℝ := norm (fun r => A.lin r k + A.b k) r * A.g k + A.e k

/-- Row `q` of group `p`. -/
def row (p : Fin 8) (q : Fin 16) : Fin 50000 := ⟨16 * p.val + q.val, by omega⟩

/-- The mean of a group's sixteen activated rows. -/
def pool (p : Fin 8) (k : Fin 128) : ℝ := (∑ q, silu (A.hid (row p q) k)) / 16

/-- The group an edge starts from. -/
def src (e : Fin 64) : Fin 8 := ⟨e.val / 8, by omega⟩

/-- The group an edge ends in. -/
def dst (e : Fin 64) : Fin 8 := ⟨e.val % 8, by omega⟩

/-- The left half of the edge weights. -/
def ul (k l : Fin 128) : ℝ := A.u k ⟨l.val, by omega⟩

/-- The right half of the edge weights. -/
def ur (k l : Fin 128) : ℝ := A.u k ⟨128 + l.val, by omega⟩

/-- An edge's feature, before normalisation: start against the left half, difference against the right half. -/
def edge (e : Fin 64) (k : Fin 128) : ℝ :=
  (∑ l, A.pool (src e) l * A.ul k l) + ∑ l, (A.pool (dst e) l - A.pool (src e) l) * A.ur k l

/-- The edge's feature from the two products with fixed weights. -/
theorem edge_eq (e : Fin 64) (k : Fin 128) :
    (∑ l, A.pool (src e) l * (A.ul k l - A.ur k l)) + (∑ l, A.pool (dst e) l * A.ur k l) = A.edge e k := by
  rw [edge, ← Finset.sum_add_distrib, ← Finset.sum_add_distrib]
  exact Finset.sum_congr rfl fun l _ => by ring

/-- The edge's feature, normalised over the edges. -/
def edgeN (e : Fin 64) (k : Fin 128) : ℝ := norm (fun e => A.edge e k) e

/-- The activated edge feature; the scale and shift may be any extended reals. -/
def msg (g2 e2 : Fin 128 → EReal) (e : Fin 64) (k : Fin 128) : EReal :=
  ((A.edgeN e k : EReal) * g2 k + e2 k) * Ideal.logistic ((A.edgeN e k : EReal) * g2 k + e2 k)

/-- Edge `s` of the eight that start from group `p`. -/
def out (p s : Fin 8) : Fin 64 := ⟨8 * p.val + s.val, by omega⟩

/-- The eight edges of a group are different. -/
theorem out_inj (p : Fin 8) : Function.Injective (out p) :=
  fun a b h => Fin.ext (by have := congrArg Fin.val h; simp only [out] at this; omega)

/-- The edges that start from a group are its eight. -/
theorem out_iff (p : Fin 8) (x : Fin 64) : src x = p ↔ ∃ q, out p q = x :=
  ⟨fun hx => ⟨dst x, Fin.ext (by rw [← hx]; simp only [out, src, dst]; omega)⟩, fun ⟨q, hq⟩ => by
    rw [← hq]; exact Fin.ext (by simp only [out, src]; omega)⟩

/-- The attention of a channel: the mean over the groups of a sigmoid of their summed edges. -/
def attn (g2 e2 : Fin 128 → EReal) (wa : Fin 512 → Fin 128 → EReal) (ba : Fin 512 → EReal) (j : Fin 512) : EReal :=
  Ideal.div (∑ p, Ideal.logistic ((∑ k, (∑ s, A.msg g2 e2 (out p s) k) * wa j k) + ba j)) ((8 : ℝ) : EReal)

end Args

end Cert.Att
end
-- ==== Proof.KerRead.lean ====
/- The kernel's computations read at an index: from real inputs, each is the stage of the value it stands for. -/
module

public import proofs.«01_k».proof.Proof.Body
public import proofs.«01_k».proof.Proof.Spec
public import Idealize.ShloMosaic.Lib.Pointwise
public import Idealize.ShloMosaic.Lib.KernelVsHost

@[expose] public section

set_option maxRecDepth 16384

noncomputable section

namespace Cert.KernelIdeal.Att

open Idealize.ShloMosaic Cert.KernelIdeal.Gen Cert.Att

/-! ## Selection -/

/-- A choice whose condition bit decides `P`. -/
theorem select_iff {α : Type} {c : BitVec 1} {P : Prop} [Decidable P] (h : c = 1#1 ↔ P) (a b : α) :
    Scalar.select c a b = if P then a else b := by
  unfold Scalar.select
  by_cases hp : P
  · rw [if_pos hp, if_pos (show c = 1 from h.mpr hp)]
  · rw [if_neg hp, if_neg (show ¬c = 1 from mt h.mp hp)]

/-- A condition bit that decides `P`, widened and converted, is one or zero. -/
theorem bit_iff {c : BitVec 1} {P : Prop} [Decidable P] (h : c = 1#1 ↔ P) :
    (FloatOps.sitofp .f32 (BitVec.setWidth 32 c) : Ideal .f32) = if P then (1 : EReal) else (0 : EReal) := by
  by_cases hp : P
  · rw [if_pos hp, h.mpr hp]
    show (((BitVec.setWidth 32 1#1).toInt : ℝ) : EReal) = 1
    norm_num
  · have hc : c = 0#1 := (by decide : ∀ c : BitVec 1, ¬c = 1#1 → c = 0#1) c (mt h.mp hp)
    rw [if_neg hp, hc]
    show (((BitVec.setWidth 32 0#1).toInt : ℝ) : EReal) = 0
    norm_num

/-- A sum over the indices of `P` alone, when `e` lists them without repetition. -/
theorem sum_listed {M : Type*} [AddCommMonoid M] {N n : ℕ} (e : Fin n → Fin N) (he : Function.Injective e)
    (P : Fin N → Prop) [DecidablePred P] (hP : ∀ x, P x ↔ ∃ q, e q = x) (f : Fin N → M) :
    ∑ x, (if P x then f x else 0) = ∑ q, f (e q) := by
  rw [← Finset.sum_filter, ← Finset.sum_image (f := f) (g := e) (s := Finset.univ) (fun a _ b _ h => he h)]
  refine Finset.sum_congr (Finset.ext fun x => ?_) fun _ _ => rfl
  simp [hP x]

/-! ## The first layer of one block -/

/-- A block's product with the first weights. -/
theorem pay3_at (x : Vec Ideal S2000x512 .f32) (w : Vec Ideal S512x128 .bf16) (r : Fin 2000) (k : Fin 128) :
    k0_pay3 x w (ix2 r k) = ∑ l : Fin 512, x (ix2 r l) * w (ix2 l k) := by
  pointwise [k0_pay3, k0_pay1]

/-- The sums of the first block's rows. -/
theorem pay6_at (x : Vec Ideal S2000x512 .f32) (w : Vec Ideal S512x128 .bf16) (k : Fin 128) :
    k0_pay6 x w (ix2 0 k) = ∑ r : Fin 2000, k0_pay3 x w (ix2 r k) := by
  pointwise [k0_pay6, k0_pay4]

/-- The sums of the first block's squares. -/
theorem pay7_at (x : Vec Ideal S2000x512 .f32) (w : Vec Ideal S512x128 .bf16) (k : Fin 128) :
    k0_pay7 x w (ix2 0 k) = ∑ r : Fin 2000, k0_pay3 x w (ix2 r k) * k0_pay3 x w (ix2 r k) := by
  pointwise [k0_pay7, k0_pay5]

/-- A block's sums added to those so far. -/
theorem pay9_at (x : Vec Ideal S2000x512 .f32) (w : Vec Ideal S512x128 .bf16) (s : Vec Ideal S1x128 .f32) (k : Fin 128) :
    k0_pay9 x w s (ix2 0 k) = s (ix2 0 k) + ∑ r : Fin 2000, k0_pay3 x w (ix2 r k) := by
  pointwise [k0_pay9, k0_pay4]

/-- A block's squares' sums added to those so far. -/
theorem pay10_at (x : Vec Ideal S2000x512 .f32) (w : Vec Ideal S512x128 .bf16) (s : Vec Ideal S1x128 .f32) (k : Fin 128) :
    k0_pay10 x w s (ix2 0 k) = s (ix2 0 k) + ∑ r : Fin 2000, k0_pay3 x w (ix2 r k) * k0_pay3 x w (ix2 r k) := by
  pointwise [k0_pay10, k0_pay5]

/-- The rows kept for the pooling: the first 128. -/
theorem pay8_at (x : Vec Ideal S2000x512 .f32) (w : Vec Ideal S512x128 .bf16) (i k : Fin 128) :
    k0_pay8 x w (ix2 i k) = k0_pay3 x w (ix2 ⟨i.val, by omega⟩ k) := by
  pointwise [k0_pay8]

/-- A block kept from the first sweep, times the attention. -/
theorem pay12_at (x : Vec Ideal S2000x512 .f32) (a : Vec Ideal S1x512 .f32) (r : Fin 2000) (j : Fin 512) :
    k0_pay12 (k0_pay2 x) a (ix2 r j) = x (ix2 r j) * a (ix2 0 j) := by
  pointwise [k0_pay12, k0_pay2, k0_pay1]

/-- A block read again, times the attention. -/
theorem pay13_at (x : Vec Ideal S2000x512 .f32) (a : Vec Ideal S1x512 .f32) (r : Fin 2000) (j : Fin 512) :
    k0_pay13 x a (ix2 r j) = x (ix2 r j) * a (ix2 0 j) := by
  pointwise [k0_pay13]

/-! ## The attention -/

section

variable (A : Args)

/-- A row of the group block among all the samples. -/
def top (i : Fin 128) : Fin 50000 := ⟨i.val, by omega⟩

/-- The activated first layer of the group block. -/
theorem pay14_at {b r0 r1 : Vec Ideal S1x128 .f32} {yh : Vec Ideal S128x128 .f32} {g e : Vec Ideal S1x128 .f32}
    (hb : ∀ k, b (ix2 0 k) = (A.b k : EReal)) (hg : ∀ k, g (ix2 0 k) = (A.g k : EReal))
    (he : ∀ k, e (ix2 0 k) = (A.e k : EReal)) (h0 : ∀ k, r0 (ix2 0 k) = ((∑ r, A.lin r k : ℝ) : EReal))
    (h1 : ∀ k, r1 (ix2 0 k) = ((∑ r, A.lin r k * A.lin r k : ℝ) : EReal))
    (hy : ∀ i k, yh (ix2 i k) = (A.lin (top i) k : EReal)) (i k : Fin 128) :
    k0_pay14 b r0 r1 yh g e (ix2 i k) = (silu (A.hid (top i) k) : EReal) := by
  have hm : Ideal.div (r0 (ix2 0 k)) (Ideal.ofBits .f32 0x47435000#32) + b (ix2 0 k)
      = (mean (fun r => A.lin r k + A.b k) : EReal) := by
    rw [h0, hb, rows, div_real _ (by norm_num), ← EReal.coe_add, ← mean_shift (by norm_num)]
    norm_num
  have hs : r1 (ix2 0 k) + Ideal.ofBits .f32 0x40000000#32 * b (ix2 0 k) * r0 (ix2 0 k)
        + Ideal.ofBits .f32 0x47435000#32 * b (ix2 0 k) * b (ix2 0 k)
      = ((∑ r, (A.lin r k + A.b k) * (A.lin r k + A.b k) : ℝ) : EReal) := by
    rw [h0, h1, hb, rows, two, ← squares_shift]
    push_cast
    rfl
  have hn := norm_of_squares (by norm_num) (fun r => A.lin r k + A.b k) (top i)
    (a := yh (ix2 i k) + b (ix2 0 k)) (c := Ideal.ofBits .f32 0x47435000#32) (by rw [hy, hb, EReal.coe_add]) hm hs
    (by rw [rows]; norm_num)
  pointwise [k0_pay14]
  rw [hn, hg, he, ← EReal.coe_mul, ← EReal.coe_add]
  exact silu_coe (A.hid (top i) k)

/-- The rows of a group are different. -/
theorem row_inj (p : Fin 8) : Function.Injective fun q : Fin 16 => (⟨16 * p.val + q.val, by omega⟩ : Fin 128) :=
  fun a b h => Fin.ext (by have := congrArg Fin.val h; simp only at this; omega)

/-- The pooled groups. -/
theorem pay16_at {h : FVec Ideal S128x128 .f32} (hh : ∀ i k, h (ix2 i k) = (silu (A.hid (top i) k) : EReal))
    (p : Fin 8) (k : Fin 128) :
    k0_pay16 (F := Ideal) h (iota .tc S8x128 32 [0] iota_S8x128_d0_w32) (iota .tc S8x128 32 [1] iota_S8x128_d1_w32)
      16#32 k0_pay15 (ix2 p k) = (A.pool p k : EReal) := by
  pointwise [k0_pay16, k0_pay15]
  have ht : ∀ x : Fin 128, x.val / 16 = p.val ↔ ∃ q : Fin 16, (⟨16 * p.val + q.val, by omega⟩ : Fin 128) = x :=
    fun x => ⟨fun hx => ⟨⟨x.val % 16, by omega⟩, Fin.ext (by simp only; omega)⟩, fun ⟨q, hq⟩ => by
      rw [← hq]; show (16 * p.val + q.val) / 16 = p.val; omega⟩
  have hl := sum_listed _ (row_inj p) (fun x => x.val / 16 = p.val) ht
    (fun x => Ideal.ofBits .f32 0x3D800000#32 * h (ix2 x k))
  refine (Finset.sum_congr rfl fun x _ => select_iff (P := x.val / 16 = p.val) ?_ _ _).trans (hl.trans ?_)
  · clear hl ht
    revert p x
    decide +kernel
  · simp only [hh, sixteenth, ← EReal.coe_mul]
    rw [coe_sum, ← Finset.mul_sum]
    refine congrArg _ (Eq.trans ?_ (mul_one_div (∑ q, silu (A.hid (Args.row p q) k)) 16))
    rw [mul_comm]
    rfl

/-- The edge features. -/
theorem pay22_at {u v : FVec Ideal S8x128 .f32} (r : Fin 64) (k : Fin 128) :
    k0_pay22 (F := Ideal) u v (iota .tc S64x8 32 [0] iota_S64x8_d0_w32) (iota .tc S64x8 32 [1] iota_S64x8_d1_w32)
      8#32 k0_pay19 k0_pay20 k0_pay21 (ix2 r k) = u (ix2 (Args.src r) k) + v (ix2 (Args.dst r) k) := by
  pointwise [k0_pay22, k0_pay19, k0_pay20, k0_pay21]
  refine congrArg₂ (· + ·)
    ((Finset.sum_congr rfl fun x _ => congrArg (· * u (ix2 x k)) (bit_iff (P := Args.src r = x) ?_)).trans ?_)
    ((Finset.sum_congr rfl fun x _ => congrArg (· * v (ix2 x k)) (bit_iff (P := Args.dst r = x) ?_)).trans ?_)
  · revert r x; decide +kernel
  · simp [ite_mul]
  · revert r x; decide +kernel
  · simp [ite_mul]

/-- A product of the pooled groups with a real matrix. -/
theorem pooled_mul {q : FVec Ideal S8x128 .f32} (hq : ∀ p l, q (ix2 p l) = (A.pool p l : EReal))
    {w : Vec Ideal S128x128 .f32} {u : Fin 128 → Fin 128 → ℝ} (hw : ∀ l k, w (ix2 l k) = (u k l : EReal)) (p : Fin 8)
    (k : Fin 128) : ∑ l : Fin 128, q (ix2 p l) * w (ix2 l k) = ((∑ l, A.pool p l * u k l : ℝ) : EReal) := by
  simp only [hq, hw, ← EReal.coe_mul]
  exact coe_sum _ _

/-- The activated edge features. -/
theorem pay25_at {f : FVec Ideal S64x128 .f32} {t n : FVec Ideal S1x128 .f32} {g e : Vec Ideal S1x128 .f32}
    (hf : ∀ r k, f (ix2 r k) = (A.edge r k : EReal)) (ht : ∀ k, t (ix2 0 k) = ∑ r : Fin 64, f (ix2 r k))
    (hn : ∀ k, n (ix2 0 k) = ((64 : ℝ) : EReal)) (r : Fin 64) (k : Fin 128) :
    k0_pay25 (F := Ideal) f t n g e (ix2 r k) = A.msg (fun k => g (ix2 0 k)) (fun k => e (ix2 0 k)) r k := by
  have hm : Ideal.div (t (ix2 0 k)) (n (ix2 0 k)) = (mean (fun r => A.edge r k) : EReal) := by
    simp only [ht, hf, hn]
    exact mean_coe (by norm_num) _ (by norm_num)
  have hv := norm_of_squares (by norm_num) (fun r => A.edge r k) r (a := f (ix2 r k)) (hf r k) hm
    (s := ∑ x, f (ix2 x k) * f (ix2 x k)) (c := Ideal.ofBits .f32 0x42800000#32)
    (by simp only [hf, ← EReal.coe_mul]; exact coe_sum _ _) (by rw [edges]; norm_num)
  pointwise [k0_pay25]
  rw [hv]
  rfl

/-- The attention from the activated edges. -/
theorem pay11_at {g : FVec Ideal S64x128 .f32} {g2 e2 : Fin 128 → EReal} (hg : ∀ r k, g (ix2 r k) = A.msg g2 e2 r k)
    (wa : Vec Ideal S128x512 .f32) (ba : Vec Ideal S1x512 .f32) (j : Fin 512) :
    k0_pay11 (F := Ideal) g (iota .tc S8x64 32 [0] iota_S8x64_d0_w32) k0_pay26 k0_pay27 k0_pay28 wa ba (ix2 0 j)
      = A.attn g2 e2 (fun j k => wa (ix2 k j)) (fun j => ba (ix2 0 j)) j := by
  pointwise [k0_pay11, k0_pay26, k0_pay27, k0_pay28]
  rw [eight]
  refine congrArg (Ideal.div · _) (Finset.sum_congr rfl fun p _ => congrArg (fun z => Ideal.logistic (z + ba (ix2 0 j)))
    (Finset.sum_congr rfl fun k _ => congrArg (· * wa (ix2 k j)) ?_))
  have hl := sum_listed _ (Args.out_inj p) (fun x => Args.src x = p) (Args.out_iff p) (fun x => g (ix2 x k))
  simp only [hg] at hl
  refine Eq.trans (Finset.sum_congr rfl fun x _ => ?_) hl
  rw [hg]
  refine (congrArg (· * A.msg g2 e2 x k) (bit_iff (P := Args.src x = p) ?_)).trans ?_
  · clear hl
    revert p x; decide +kernel
  · simp [ite_mul]

/-- The attention vector from the two sums of the first sweep, its first rows and the small arrays. -/
theorem attOf_at {I : Ins Ideal} {r0 r1 : Vec Ideal S1x128 .f32} {yh : Vec Ideal S128x128 .f32}
    (hb : ∀ k, I.b (ix2 0 k) = (A.b k : EReal)) (hg : ∀ k, I.g1 (ix2 0 k) = (A.g k : EReal))
    (he : ∀ k, I.e1 (ix2 0 k) = (A.e k : EReal)) (h0 : ∀ k, r0 (ix2 0 k) = ((∑ r, A.lin r k : ℝ) : EReal))
    (h1 : ∀ k, r1 (ix2 0 k) = ((∑ r, A.lin r k * A.lin r k : ℝ) : EReal))
    (hy : ∀ i k, yh (ix2 i k) = (A.lin (top i) k : EReal))
    (hd : ∀ l k, I.wd (ix2 l k) = ((A.ul k l - A.ur k l : ℝ) : EReal)) (hr : ∀ l k, I.wb (ix2 l k) = (A.ur k l : EReal))
    (j : Fin 512) :
    attOf I r0 r1 yh (ix2 0 j) = A.attn (fun k => I.g2 (ix2 0 k)) (fun k => I.e2 (ix2 0 k))
      (fun j k => I.wa (ix2 k j)) (fun j => I.ba (ix2 0 j)) j := by
  have hp := pay16_at A (pay14_at A hb hg he h0 h1 hy)
  have hu := pooled_mul A hp (w := I.wd) (u := fun k l => A.ul k l - A.ur k l) hd
  have hv := pooled_mul A hp (w := I.wb) (u := A.ur) hr
  unfold attOf
  refine pay11_at A (fun r k => pay25_at A (fun r k => ?_) (fun k => ?_) (fun k => ?_) r k) _ _ j
  · rw [pay22_at, ← A.edge_eq, EReal.coe_add, ← hu, ← hv]
    generalize hq : k0_pay16 (F := Ideal) _ _ _ _ _ = q
    pointwise [k0_pay17, k0_pay18]
    rw [hq]
  · pointwise [k0_pay23]
  · pointwise [k0_pay24]
    exact edges

end

end Cert.KernelIdeal.Att
end
-- ==== Proof.KerArrays.lean ====
/- The kernel's input blocks at an index, from the argument arrays as launched: what the operations before the kernel's
   region put in each array it reads, and which part of the array each block is. -/
module

public import proofs.«01_k».proof.Proof.Sweep
public import Idealize.ShloMosaic.Lib.Pointwise
public import Idealize.ShloMosaic.Lib.Pipeline.ValueKit

@[expose] public section

set_option maxRecDepth 16384

noncomputable section

namespace Cert.KernelIdeal.Att

open Idealize.ShloMosaic Idealize.ShloMosaic.TcCoe Idealize.SL.Sem
open Cert.KernelIdeal.Gen

variable (m : (ℓ : Loc nD τ sig) → Buf (Elt Ideal) ℓ) (c : Dev nD)

/-! ## The argument arrays as launched -/

abbrev a0 : Vec Ideal S50000x512 .f32 := m ((c : Thread nD τ).loc main_arg0)
abbrev a1 : Vec Ideal S128x512 .f32 := m ((c : Thread nD τ).loc main_arg1)
abbrev a2 : Vec Ideal S128 .f32 := m ((c : Thread nD τ).loc main_arg2)
abbrev a3 : Vec Ideal S128 .f32 := m ((c : Thread nD τ).loc main_arg3)
abbrev a4 : Vec Ideal S128 .f32 := m ((c : Thread nD τ).loc main_arg4)
abbrev a5 : Vec Ideal S128x256 .f32 := m ((c : Thread nD τ).loc main_arg5)
abbrev a6 : Vec Ideal S128 .f32 := m ((c : Thread nD τ).loc main_arg6)
abbrev a7 : Vec Ideal S128 .f32 := m ((c : Thread nD τ).loc main_arg7)
abbrev a8 : Vec Ideal S512x128 .f32 := m ((c : Thread nD τ).loc main_arg8)
abbrev a9 : Vec Ideal S512 .f32 := m ((c : Thread nD τ).loc main_arg9)

/-! ## The arrays the region reads -/

/-- The first layer's weights, transposed; the difference of the edge weights' halves, transposed; their right half,
    transposed; the last layer's weights, transposed. -/
theorem V_matrices :
    (∀ l k, (show Vec Ideal S512x128 .bf16 from V m c main_v1) (ix2 l k) = a1 m c (ix2 k l))
    ∧ (∀ l k : Fin 128, (show Vec Ideal S128x128 .f32 from V m c main_v5) (ix2 l k)
        = a5 m c (ix2 k ⟨l.val, by omega⟩) - a5 m c (ix2 k ⟨128 + l.val, by omega⟩))
    ∧ (∀ l k : Fin 128, (show Vec Ideal S128x128 .f32 from V m c main_v6) (ix2 l k) = a5 m c (ix2 k ⟨128 + l.val, by omega⟩))
    ∧ (∀ l k, (show Vec Ideal S128x512 .f32 from V m c main_v7) (ix2 l k) = a8 m c (ix2 k l)) := by
  refine ⟨fun l k => ?_, fun l k => ?_, fun l k => ?_, fun l k => ?_⟩ <;> (dsimp only [V]; after_results; pointwise)

/-- Each vector argument, as a row. -/
theorem V_rows :
    (∀ k, (show Vec Ideal S1x128 .f32 from V m c main_v8) (ix2 0 k) = a2 m c (ix1 k))
    ∧ (∀ k, (show Vec Ideal S1x128 .f32 from V m c main_v9) (ix2 0 k) = a3 m c (ix1 k))
    ∧ (∀ k, (show Vec Ideal S1x128 .f32 from V m c main_v10) (ix2 0 k) = a4 m c (ix1 k))
    ∧ (∀ k, (show Vec Ideal S1x128 .f32 from V m c main_v11) (ix2 0 k) = a6 m c (ix1 k))
    ∧ (∀ k, (show Vec Ideal S1x128 .f32 from V m c main_v12) (ix2 0 k) = a7 m c (ix1 k))
    ∧ (∀ k, (show Vec Ideal S1x512 .f32 from V m c main_v13) (ix2 0 k) = a9 m c (ix1 k)) := by
  refine ⟨fun k => ?_, fun k => ?_, fun k => ?_, fun k => ?_, fun k => ?_, fun k => ?_⟩ <;>
    (dsimp only [V]; after_results; pointwise)

/-! ## The blocks -/

/-- Every window but the samples' and the result's stages its whole array. -/
theorem index_zero : ∀ w : Fin cfg0.W, w.val ≠ 0 → w.val ≠ 11 → ∀ (t : Fin cfg0.N) a, (cfg0.win w).index t a = 0 :=
  (by decide +kernel : ∀ w : Fin 12, w.val ≠ 0 → w.val ≠ 11 → ∀ (t : Fin grid0.N) a, (win0 w).index t a = 0)

/-- So an element of its block has the same place in the array. -/
theorem emb_whole (w : Fin cfg0.W) (h0 : w.val ≠ 0 := by decide) (h11 : w.val ≠ 11 := by decide) (t : Fin cfg0.N)
    (j : ((cfg0.win w).xblock (cfg0.grid.coords t)).Idx) (a) : (((cfg0.win w).rect t).emb j a : ℕ) = j a :=
  (cfg0.win w).rect_emb_val_of_index_zero t a (index_zero w h0 h11 t a) j

/-- Each of these blocks is its array. -/
theorem blk_whole (t : Fin cfg0.N) :
    iblk m c 1 t = V m c main_v1 ∧ iblk m c 2 t = V m c main_v8 ∧ iblk m c 3 t = V m c main_v9
    ∧ iblk m c 4 t = V m c main_v10 ∧ iblk m c 5 t = V m c main_v5 ∧ iblk m c 6 t = V m c main_v6
    ∧ iblk m c 7 t = V m c main_v11 ∧ iblk m c 8 t = V m c main_v12 ∧ iblk m c 9 t = V m c main_v7
    ∧ iblk m c 10 t = V m c main_v13 :=
  ⟨funext fun j => congrArg (V m c main_v1) (funext fun a => Fin.ext (emb_whole 1 (t := t) (j := j) (a := a))),
    funext fun j => congrArg (V m c main_v8) (funext fun a => Fin.ext (emb_whole 2 (t := t) (j := j) (a := a))),
    funext fun j => congrArg (V m c main_v9) (funext fun a => Fin.ext (emb_whole 3 (t := t) (j := j) (a := a))),
    funext fun j => congrArg (V m c main_v10) (funext fun a => Fin.ext (emb_whole 4 (t := t) (j := j) (a := a))),
    funext fun j => congrArg (V m c main_v5) (funext fun a => Fin.ext (emb_whole 5 (t := t) (j := j) (a := a))),
    funext fun j => congrArg (V m c main_v6) (funext fun a => Fin.ext (emb_whole 6 (t := t) (j := j) (a := a))),
    funext fun j => congrArg (V m c main_v11) (funext fun a => Fin.ext (emb_whole 7 (t := t) (j := j) (a := a))),
    funext fun j => congrArg (V m c main_v12) (funext fun a => Fin.ext (emb_whole 8 (t := t) (j := j) (a := a))),
    funext fun j => congrArg (V m c main_v7) (funext fun a => Fin.ext (emb_whole 9 (t := t) (j := j) (a := a))),
    funext fun j => congrArg (V m c main_v13) (funext fun a => Fin.ext (emb_whole 10 (t := t) (j := j) (a := a)))⟩

/-- The samples' block at a point. -/
theorem index0 : ∀ t : Fin cfg0.N, win0_0.index t = ![if t.val < 25 then t.val else max (t.val - 25) 21, 0] :=
  (by decide +kernel : ∀ t : Fin grid0.N, win0_0.index t = ![if t.val < 25 then t.val else max (t.val - 25) 21, 0])

/-- Its elements are the argument's rows from 2000 times the block's index. -/
theorem blk_rows (t : Fin cfg0.N) (r : Fin 2000) (l : Fin 512) :
    (ins m c t).x (ix2 r l) = a0 m c (ix2 ⟨2000 * (if t.val < 25 then t.val else max (t.val - 25) 21) + r.val, by
      have := lt_of_lt_of_eq t.isLt (show cfg0.N = 50 from N_0); split <;> omega⟩ l) := by
  unfold a0
  rw [← V_main_arg0 m c]
  show iblk m c 0 t (ix2 r l) = _
  blk_simp [iblk]
  refine congrArg _ ?_
  blk_ext [index0]

/-- The matrices of an input block. -/
theorem ins_matrices (t : Fin cfg0.N) :
    (∀ l k, (ins m c t).w (ix2 l k) = a1 m c (ix2 k l))
    ∧ (∀ l k : Fin 128, (ins m c t).wd (ix2 l k) = a5 m c (ix2 k ⟨l.val, by omega⟩) - a5 m c (ix2 k ⟨128 + l.val, by omega⟩))
    ∧ (∀ l k : Fin 128, (ins m c t).wb (ix2 l k) = a5 m c (ix2 k ⟨128 + l.val, by omega⟩))
    ∧ (∀ l k, (ins m c t).wa (ix2 l k) = a8 m c (ix2 k l)) := by
  obtain ⟨e1, -, -, -, e5, e6, -, -, e9, -⟩ := blk_whole m c t
  unfold ins
  dsimp only
  rw [e1, e5, e6, e9]
  exact V_matrices m c

/-- The rows of an input block. -/
theorem ins_rows (t : Fin cfg0.N) :
    (∀ k, (ins m c t).b (ix2 0 k) = a2 m c (ix1 k)) ∧ (∀ k, (ins m c t).g1 (ix2 0 k) = a3 m c (ix1 k))
    ∧ (∀ k, (ins m c t).e1 (ix2 0 k) = a4 m c (ix1 k)) ∧ (∀ k, (ins m c t).g2 (ix2 0 k) = a6 m c (ix1 k))
    ∧ (∀ k, (ins m c t).e2 (ix2 0 k) = a7 m c (ix1 k)) ∧ (∀ k, (ins m c t).ba (ix2 0 k) = a9 m c (ix1 k)) := by
  obtain ⟨-, e2, e3, e4, -, -, e7, e8, -, e10⟩ := blk_whole m c t
  unfold ins
  dsimp only
  rw [e2, e3, e4, e7, e8, e10]
  exact V_rows m c

end Cert.KernelIdeal.Att
end
-- ==== Proof.KerValue.lean ====
/- The kernel's result: each sample's row times the attention vector, whatever real numbers the first arguments are. -/
module

public import proofs.«01_k».proof.Proof.KerRead
public import proofs.«01_k».proof.Proof.KerArrays
public import proofs.«01_k».proof.Proof.Run

@[expose] public section

set_option maxRecDepth 16384

noncomputable section

namespace Cert.KernelIdeal.Att

open Idealize.ShloMosaic Idealize.ShloMosaic.TcCoe Idealize.SL.Sem
open Cert.KernelIdeal.Gen Cert.Att

variable (m : (ℓ : Loc nD τ sig) → Buf (Elt Ideal) ℓ) (ρ : Dev nD → PrngReg)

/-- The arguments up to the edge weights are the reals of `A`. -/
structure Reals (c : Dev nD) (A : Args) : Prop where
  x : ∀ r l, a0 m c (ix2 r l) = (A.x r l : EReal)
  w : ∀ k l, a1 m c (ix2 k l) = (A.w k l : EReal)
  b : ∀ k, a2 m c (ix1 k) = (A.b k : EReal)
  g : ∀ k, a3 m c (ix1 k) = (A.g k : EReal)
  e : ∀ k, a4 m c (ix1 k) = (A.e k : EReal)
  u : ∀ k l, a5 m c (ix2 k l) = (A.u k l : EReal)

variable {m} {c : Dev nD} {A : Args}

/-! ## The first sweep -/

/-- A row of block `n` among all the samples. -/
def blkRow (n : ℕ) (hn : n < 25) (r : Fin 2000) : Fin 50000 := ⟨2000 * n + r.val, by omega⟩

/-- Twenty-five blocks' sums, accumulated, are the sum over all the samples. -/
theorem sum_blocks (f : Fin 50000 → ℝ) (s : ℕ → EReal) (h0 : s 0 = ∑ r, (f (blkRow 0 (by decide) r) : EReal))
    (hs : ∀ n (h : n + 1 < 25), s (n + 1) = s n + ∑ r, (f (blkRow (n + 1) h r) : EReal)) :
    s 24 = ((∑ r, f r : ℝ) : EReal) := by
  let F : ℕ → ℝ := fun i => if h : i < 50000 then f ⟨i, h⟩ else 0
  have hF : ∀ n (h : n < 25), ∑ r, (f (blkRow n h r) : EReal) = ((∑ i ∈ Finset.range 2000, F (2000 * n + i) : ℝ) : EReal) := by
    intro n h
    rw [coe_sum, Finset.sum_range]
    exact congrArg _ (Finset.sum_congr rfl fun r _ => by
      dsimp only [F]; rw [dif_pos (show 2000 * n + r.val < 50000 by omega)]; rfl)
  have key : ∀ n, n < 25 → s n = ((∑ i ∈ Finset.range (2000 * (n + 1)), F i : ℝ) : EReal) := by
    intro n
    induction n with
    | zero => intro h; rw [h0, hF 0 h]; simp
    | succ n ih =>
      intro h
      rw [hs n h, ih (by omega), hF (n + 1) h, ← EReal.coe_add, Nat.mul_succ 2000 (n + 1), Finset.sum_range_add]
  rw [key 24 (by decide), Finset.sum_range]
  exact congrArg _ (Finset.sum_congr rfl fun r _ => dif_pos r.isLt)

/-- The first layer of block `n`. -/
theorem lin_block (h : Reals m c A) (n : ℕ) (hn : n < 25) (r : Fin 2000) (k : Fin 128) :
    k0_pay3 (ins m c (pt n)).x (ins m c (pt n)).w (ix2 r k) = (A.lin (blkRow n hn r) k : EReal) := by
  have hp : (pt n).val = n := Nat.mod_eq_of_lt (by omega)
  rw [pay3_at, Args.lin, ← coe_sum]
  refine Finset.sum_congr rfl fun l _ => ?_
  rw [EReal.coe_mul, blk_rows, (ins_matrices m c (pt n)).1, h.w, ← h.x]
  refine congrArg (fun i => a0 m c (ix2 i l) * _) (Fin.ext ?_)
  show 2000 * (if (pt n).val < 25 then (pt n).val else max ((pt n).val - 25) 21) + r.val = 2000 * n + r.val
  rw [hp, if_pos hn]

/-- The accumulated sums of the first layer -/
theorem rowSum_at (h : Reals m c A) (k : Fin 128) : rowSum m c 24 (ix2 0 k) = ((∑ r, A.lin r k : ℝ) : EReal) :=
  sum_blocks (fun r => A.lin r k) (fun n => rowSum m c n (ix2 0 k))
    ((pay6_at _ _ k).trans (Finset.sum_congr rfl fun r _ => lin_block h 0 (by decide) r k))
    (fun n hn => (pay9_at _ _ _ k).trans (congrArg _ (Finset.sum_congr rfl fun r _ => lin_block h (n + 1) hn r k)))

/-- and of its squares. -/
theorem rowSq_at (h : Reals m c A) (k : Fin 128) :
    rowSq m c 24 (ix2 0 k) = ((∑ r, A.lin r k * A.lin r k : ℝ) : EReal) := by
  have sq : ∀ n hn r, k0_pay3 (ins m c (pt n)).x (ins m c (pt n)).w (ix2 r k)
      * k0_pay3 (ins m c (pt n)).x (ins m c (pt n)).w (ix2 r k)
      = ((A.lin (blkRow n hn r) k * A.lin (blkRow n hn r) k : ℝ) : EReal) :=
    fun n hn r => by rw [lin_block h n hn, EReal.coe_mul]
  exact sum_blocks (fun r => A.lin r k * A.lin r k) (fun n => rowSq m c n (ix2 0 k))
    ((pay7_at _ _ k).trans (Finset.sum_congr rfl fun r _ => sq 0 (by decide) r))
    (fun n hn => (pay10_at _ _ _ k).trans (congrArg _ (Finset.sum_congr rfl fun r _ => sq (n + 1) hn r)))

/-- The first layer of the group block. -/
theorem headY_at (h : Reals m c A) (i k : Fin 128) : headY m c (ix2 i k) = (A.lin (top i) k : EReal) := by
  rw [headY, pay8_at, lin_block h 0 (by decide)]
  exact congrArg (fun r => ((A.lin r k : ℝ) : EReal)) (Fin.ext (by simp [blkRow, top]))

/-! ## The result -/

/-- The attention of a channel, from the argument arrays. -/
def attn (m : (ℓ : Loc nD τ sig) → Buf (Elt Ideal) ℓ) (c : Dev nD) (A : Args) (j : Fin 512) : EReal :=
  A.attn (fun k => a6 m c (ix1 k)) (fun k => a7 m c (ix1 k)) (fun j k => a8 m c (ix2 j k)) (fun j => a9 m c (ix1 j)) j

/-- The attention vector that the first sweep leaves. -/
theorem att_at (h : Reals m c A) (j : Fin 512) : att m c (ix2 0 j) = attn m c A j := by
  obtain ⟨-, hd, hr, hwa⟩ := ins_matrices m c (pt 24)
  obtain ⟨hb, hg, he, hg2, he2, hba⟩ := ins_rows m c (pt 24)
  rw [att, attOf_at A (fun k => by rw [hb, h.b]) (fun k => by rw [hg, h.g]) (fun k => by rw [he, h.e]) (rowSum_at h)
    (rowSq_at h) (headY_at h) (fun l k => by rw [hd, h.u, h.u, ← EReal.coe_sub]; rfl)
    (fun l k => by rw [hr, h.u]; rfl), attn]
  simp only [hg2, he2, hwa, hba]

/-- The result array: a sample's row times the attention. -/
def result (m : (ℓ : Loc nD τ sig) → Buf (Elt Ideal) ℓ) (c : Dev nD) (A : Args) : Vec Ideal S50000x512 .f32 :=
  fun i => a0 m c i * attn m c A (i 1)

/-- What a point of the second sweep leaves, at an index. -/
theorem outBlk_at (h : Reals m c A) (t : Fin cfg0.N) (ht : 25 ≤ t.val) (r : Fin 2000) (j : Fin 512) :
    outBlk m c t (ix2 r j) = a0 m c (ix2 ⟨2000 * (t.val - 25) + r.val, by
      have := lt_of_lt_of_eq t.isLt (show cfg0.N = 50 from N_0); omega⟩ j) * attn m c A j := by
  have hN := lt_of_lt_of_eq t.isLt (show cfg0.N = 50 from N_0)
  have hp : (pt (t.val % 25)).val = t.val - 25 := by
    show t.val % 25 % 50 = t.val - 25
    omega
  rw [outBlk]
  split
  · rw [pay12_at, blk_rows, att_at h]
    refine congrArg (fun i => a0 m c (ix2 i j) * _) (Fin.ext ?_)
    simp only [hp]
    rw [if_pos (by omega)]
  · rw [pay13_at, blk_rows, att_at h]
    refine congrArg (fun i => a0 m c (ix2 i j) * _) (Fin.ext ?_)
    simp only
    rw [if_neg (by omega), max_eq_left (by omega)]

/-- The result array after the run. -/
theorem final (h : Reals m c A) : (dats m 0 c).arrAt 11 cfg0.N = result m c A := by
  refine (dats m 0 c).arrAt_eq_of_covers 11 _ (by decide +kernel) fun t hf y => ?_
  have ht := (flush11 t).mp hf
  blk_simp
  show outBlk m c t y = _
  obtain ⟨r, j, rfl⟩ : ∃ (r : Fin 2000) (j : Fin 512), y = ix2 r j := ⟨y 0, y 1, by funext a; fin_cases a <;> rfl⟩
  rw [outBlk_at h t ht]
  unfold result
  have e := index11 t ht
  refine congrArg₂ (fun i l => a0 m c i * attn m c A l) ?_ (Fin.ext ?_)
  · blk_ext [e]
  · blk_simp [e]

/-- The kernel's run: the result array at its value, the arguments unchanged. -/
theorem run (A : Dev nD → Args) (h : ∀ c, Reals m c (A c)) :
    θ_run defs (onTc (τ := τ) (main (F := Ideal))) ⟨m, fun _ => 0, ρ⟩ (fun r => ∀ c : Dev nD,
      r.2.mem ((c.tc : Thread nD τ).loc main_v14) = result m c (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ hr c => ⟨((hr.1.1 c).1 11).trans (final (h c)), hr.2 c⟩)
    (θ_run_and (run_main m ρ) (unchanged m ρ))

end Cert.KernelIdeal.Att
end
-- ==== Proof.RefRead.lean ====
/- The reference's operations read at an index: from real inputs, each is the stage of the value it stands for. -/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Att

open Idealize.ShloMosaic Cert.ReferenceIdeal.Gen Cert.ReferenceIdeal.Read Cert.Att

attribute [local instance] Cert.ReferenceIdeal.Gen.facts

variable {x0 : Vec Ideal S50000x512 .f32} {x1 : Vec Ideal S128x512 .f32} {x2 x3 x4 : Vec Ideal S128 .f32}
  {x5 : Vec Ideal S128x256 .f32} {x6 x7 : Vec Ideal S128 .f32} {x8 : Vec Ideal S512x128 .f32} {x9 : Vec Ideal S512 .f32}

/-- The first six arguments hold the real numbers of `A`. -/
structure Reals (x0 : Vec Ideal S50000x512 .f32) (x1 : Vec Ideal S128x512 .f32) (x2 x3 x4 : Vec Ideal S128 .f32)
    (x5 : Vec Ideal S128x256 .f32) (A : Args) : Prop where
  x : ∀ r l, x0 (ix2 r l) = (A.x r l : EReal)
  w : ∀ k l, x1 (ix2 k l) = (A.w k l : EReal)
  b : ∀ k, x2 (ix1 k) = (A.b k : EReal)
  g : ∀ k, x3 (ix1 k) = (A.g k : EReal)
  e : ∀ k, x4 (ix1 k) = (A.e k : EReal)
  u : ∀ k l, x5 (ix2 k l) = (A.u k l : EReal)

variable {A : Args} (h : Reals x0 x1 x2 x3 x4 x5 A)

/-! ## Small facts -/

/-- A number of rows less a zero correction is itself. -/
theorem less_zero (c : EReal) : c - (FloatOps.sitofp .f32 (0#32 : BitVec 32) : Ideal .f32) = c := by
  show c - (((0#32 : BitVec 32).toInt : ℝ) : EReal) = c
  norm_num

/-- A choice whose condition bit is one. -/
theorem select_true {α : Type} {c : BitVec 1} (hc : c = 1#1) (a b : α) : Scalar.select c a b = a := by
  subst hc; rfl

/-- A sum of real products is the real sum of products. -/
theorem coe_dot {n : ℕ} (f g : Fin n → ℝ) : ∑ i, (f i : EReal) * (g i : EReal) = ((∑ i, f i * g i : ℝ) : EReal) := by
  rw [← coe_sum]
  exact Finset.sum_congr rfl fun i _ => (EReal.coe_mul _ _).symm

/-- The conjunction of true bits along an axis of size one. -/
theorem all_true (f : Fin 1 → BitVec 1) (hf : ∀ i, f i = 1#1) : Finset.fold IntOp.andi (1#1) f Finset.univ = 1#1 := by
  rw [Finset.univ_unique, Finset.fold_singleton, hf]
  rfl

/-! ## The first layer -/

include h in
/-- The first layer with its bias. -/
theorem v4_at (r : Fin 50000) (k : Fin 128) : val_main_v4 x0 x1 x2 (ix2 r k) = ((A.lin r k + A.b k : ℝ) : EReal) := by
  pointwise [val_main_v4, val_main_v1, val_main_v0, val_main_v3, val_main_v2]
  simp only [h.x, h.w, h.b]
  rw [coe_dot, ← EReal.coe_add]
  rfl

include h in
/-- The reference's mean over the rows. -/
theorem v8_at (k : Fin 128) : val_main_v8 x0 x1 x2 (ix2 0 k) = (mean (fun r => A.lin r k + A.b k) : EReal) := by
  pointwise [val_main_v8, val_main_v7, val_main_v6, val_main_v5, val_main_cst, val_main_cst_0]
  simp only [v4_at h]
  exact mean_coe (by norm_num) _ (rows.trans (by norm_num))

include h in
/-- The reference's variance over the rows: the count is positive, so the variance is the one chosen. -/
theorem v9_at (k : Fin 128) : val_main_v9 x0 x1 x2 (ix2 0 k) = (var (fun r => A.lin r k + A.b k) : EReal) := by
  pointwise [val_main_v9, val_main_call0_v13, val_main_call0_v12, val_main_call0_cst_3, val_main_call0_v8,
    val_main_call0_v10, val_main_call0_v11, val_main_call0_v9, val_main_call0_v6, val_main_call0_v5, val_main_call0_v4,
    val_main_call0_v3, val_main_call0_v2, val_main_call0_v1, val_main_call0_v0, val_main_call0_cst, val_main_call0_cst_0,
    val_main_call0_cst_1, val_main_call0_cst_2, val_main_call0_v7, val_main_c]
  rw [less_zero, if_pos (by rw [rows]; exact_mod_cast (by norm_num : (0 : ℝ) < 50000))]
  simp only [v4_at h]
  exact var_coe (by norm_num) _ (mean_coe (by norm_num) _ (rows.trans (by norm_num))) (rows.trans (by norm_num))

include h in
/-- The first layer after normalization, scale and shift. -/
theorem v22_at (r : Fin 50000) (k : Fin 128) : val_main_v22 x0 x1 x2 x3 x4 (ix2 r k) = (A.hid r k : EReal) := by
  pointwise [val_main_v22, val_main_v19, val_main_v16, val_main_v18, val_main_v17, val_main_v21, val_main_v20,
    val_main_v11, val_main_v15, val_main_v14, val_main_v13, val_main_v12, val_main_v10, val_main_cst_1]
  rw [norm_of_deviations (fun r => A.lin r k + A.b k) r (v4_at h r k) (v8_at h k) (v9_at h k), h.g, h.e,
    ← EReal.coe_mul, ← EReal.coe_add]
  rfl

include h in
/-- The first layer after its activation. -/
theorem v29_at (r : Fin 50000) (k : Fin 128) : val_main_v29 x0 x1 x2 x3 x4 (ix2 r k) = (silu (A.hid r k) : EReal) := by
  pointwise [val_main_v29, val_main_v28, val_main_v27, val_main_v26, val_main_v25, val_main_v24, val_main_v23,
    val_main_cst_2, val_main_cst_3]
  rw [v22_at h]
  exact silu_coe _

/-! ## The rows pooled -/

/-- The row index taken at `(p, q)`. -/
theorem take_index (p : Fin 8) (q : Fin 16) :
    val_main_call1_v5 (F := Ideal) (ix3 p q 0) = BitVec.ofNat 32 (16 * p.val + q.val) := by
  pointwise [val_main_call1_v5, val_main_call1_v4, val_main_call1_v3, val_main_call1_v2, val_main_call1_v1,
    val_main_call1_v0, val_main_call1_c, val_main_call1_c_0, val_main_v31, val_main_v30]
  revert p q
  decide +kernel

/-- Every row index taken is inside the array. -/
theorem take_inside (p : Fin 8) (q : Fin 16) (i : Fin 1) : val_main_call1_v11 (F := Ideal) (ix3 p q i) = 1#1 := by
  obtain rfl : i = 0 := Subsingleton.elim _ _
  pointwise [val_main_call1_v11, val_main_call1_v10, val_main_call1_v9, val_main_call1_v8, val_main_call1_v7,
    val_main_call1_v6, val_main_call1_c_1, val_main_call1_c_2]
  rw [take_index]
  revert p q
  decide +kernel

/-- A gather of whole rows by a table of row indices, read at an index. -/
theorem gather_table (x : Vec Ideal S50000x128 .f32) (idx : IVec S8x16x1 32) (p : Fin 8) (q : Fin 16) (k : Fin 128) :
    Host.gather gather_S50000x128_S8x16x1_S8x16x128_2_0_n_n_0_2_1128 x idx (ix3 p q k)
      = x (ix2 ⟨min (idx (ix3 p q 0)).toInt.toNat 49999, by omega⟩ k) := by
  let d := gather_S50000x128_S8x16x1_S8x16x128_2_0_n_n_0_2_1128
  have hread : ∀ c, d.siIdx (ix3 p q k) c = ix3 p q 0 := fun c => funext fun b => Fin.ext <| by
    match b with
    | ⟨0, _⟩ => rfl
    | ⟨1, _⟩ => rfl
    | ⟨2, _⟩ => exact Nat.lt_one_iff.mp c.isLt
  refine congrArg x (funext fun a => Fin.ext ?_)
  show d.start (ix3 p q k) idx a + d.batchCoord (ix3 p q k) a + d.offCoord (ix3 p q k) a = _
  rw [d.batchCoord_eq_zero _ a List.not_mem_nil, Nat.add_zero]
  match a with
  | ⟨0, _⟩ =>
    rw [d.offCoord_eq_zero (ix3 p q k) ⟨0, by decide⟩ (fun hk => ((d.mem_sKept _).mp hk).1 (List.mem_singleton.mpr rfl)), Nat.add_zero]
    unfold GatherDims.start
    rw [dif_pos (show (⟨0, by decide⟩ : Fin S50000x128.rank) ∈ d.startIndexMap from List.mem_singleton.mpr rfl), hread]
    rfl
  | ⟨1, _⟩ =>
    unfold GatherDims.start
    rw [dif_neg (show ¬(⟨1, by decide⟩ : Fin S50000x128.rank) ∈ d.startIndexMap from (by decide : ¬(1 : Fin 2) ∈ [(0 : Fin 2)])), Nat.zero_add]
    rfl

/-- A gather of whole rows by a list of row indices, read at an index. -/
theorem gather_list (x : Vec Ideal S8x128 .f32) (idx : IVec S64x1 32) (e : Fin 64) (k : Fin 128) :
    Host.gather gather_S8x128_S64x1_S64x128_1_0_n_n_0_1_1128 x idx (ix2 e k)
      = x (ix2 ⟨min (idx (ix2 e 0)).toInt.toNat 7, by omega⟩ k) := by
  let d := gather_S8x128_S64x1_S64x128_1_0_n_n_0_1_1128
  have hread : ∀ c, d.siIdx (ix2 e k) c = ix2 e 0 := fun c => funext fun b => Fin.ext <| by
    match b with
    | ⟨0, _⟩ => rfl
    | ⟨1, _⟩ => exact Nat.lt_one_iff.mp c.isLt
  refine congrArg x (funext fun a => Fin.ext ?_)
  show d.start (ix2 e k) idx a + d.batchCoord (ix2 e k) a + d.offCoord (ix2 e k) a = _
  rw [d.batchCoord_eq_zero _ a List.not_mem_nil, Nat.add_zero]
  match a with
  | ⟨0, _⟩ =>
    rw [d.offCoord_eq_zero (ix2 e k) ⟨0, by decide⟩ (fun hk => ((d.mem_sKept _).mp hk).1 (List.mem_singleton.mpr rfl)), Nat.add_zero]
    unfold GatherDims.start
    rw [dif_pos (show (⟨0, by decide⟩ : Fin S8x128.rank) ∈ d.startIndexMap from List.mem_singleton.mpr rfl), hread]
    rfl
  | ⟨1, _⟩ =>
    unfold GatherDims.start
    rw [dif_neg (show ¬(⟨1, by decide⟩ : Fin S8x128.rank) ∈ d.startIndexMap from (by decide : ¬(1 : Fin 2) ∈ [(0 : Fin 2)])), Nat.zero_add]
    rfl

/-- The row a table entry names. -/
theorem row_of_index (p : Fin 8) (q : Fin 16) :
    min (BitVec.ofNat 32 (16 * p.val + q.val)).toInt.toNat 49999 = (Args.row p q).val := by
  revert p q
  decide +kernel

/-- The rows taken. -/
theorem v32_at (p : Fin 8) (q : Fin 16) (k : Fin 128) :
    val_main_v32 x0 x1 x2 x3 x4 (ix3 p q k) = val_main_v29 x0 x1 x2 x3 x4 (ix2 (Args.row p q) k) := by
  pointwise [val_main_v32, val_main_call1_v14, val_main_call1_v13, val_main_call1_v12, val_main_call1_c_3]
  rw [select_true (all_true _ (take_inside p q)), gather_table]
  refine congrArg (fun r => val_main_v29 x0 x1 x2 x3 x4 (ix2 r k)) (Fin.ext ?_)
  show min (val_main_call1_v5 (F := Ideal) (ix3 p q 0)).toInt.toNat 49999 = _
  rw [take_index, row_of_index]

include h in
/-- The pooled rows. -/
theorem v35_at (p : Fin 8) (k : Fin 128) : val_main_v35 x0 x1 x2 x3 x4 (ix2 p k) = (A.pool p k : EReal) := by
  pointwise [val_main_v35, val_main_v34, val_main_v33, val_main_cst_4, val_main_cst_5]
  simp only [v32_at, v29_at h]
  rw [coe_sum, sixteen, div_real _ (by norm_num)]
  rfl

/-! ## The edges -/

/-- The group an edge starts from, as the reference's index word. -/
theorem src_index (e : Fin 64) : val_main_call2_v5 (F := Ideal) (ix2 e 0) = BitVec.ofNat 32 (Args.src e).val := by
  pointwise [val_main_call2_v5, val_main_call2_v4, val_main_call2_v3, val_main_call2_v2, val_main_call2_v1,
    val_main_call2_v0, val_main_call2_c, val_main_call2_c_0, val_main_v38, val_main_v37, val_main_v36]
  revert e
  decide +kernel

/-- The group an edge ends in, as the reference's index word. -/
theorem dst_index (e : Fin 64) : val_main_call3_v5 (F := Ideal) (ix2 e 0) = BitVec.ofNat 32 (Args.dst e).val := by
  pointwise [val_main_call3_v5, val_main_call3_v4, val_main_call3_v3, val_main_call3_v2, val_main_call3_v1,
    val_main_call3_v0, val_main_call3_c, val_main_call3_c_0, val_main_v42, val_main_v41, val_main_v40, val_main_v39]
  revert e
  decide +kernel

/-- The group an edge starts from, as the index word of the sum over edges. -/
theorem sum_index (e : Fin 64) : val_main_v80 (F := Ideal) (ix2 e 0) = BitVec.ofNat 32 (Args.src e).val := by
  pointwise [val_main_v80, val_main_v79, val_main_v78, val_main_v77, val_main_v76, val_main_v75, val_main_c_13,
    val_main_c_14, val_main_v38, val_main_v37, val_main_v36]
  revert e
  decide +kernel

/-- Every start is inside the array of groups. -/
theorem src_inside (e : Fin 64) (i : Fin 1) : val_main_call2_v11 (F := Ideal) (ix2 e i) = 1#1 := by
  obtain rfl : i = 0 := Subsingleton.elim _ _
  pointwise [val_main_call2_v11, val_main_call2_v10, val_main_call2_v9, val_main_call2_v8, val_main_call2_v7,
    val_main_call2_v6, val_main_call2_c_1, val_main_call2_c_2]
  rw [src_index]
  revert e
  decide +kernel

/-- Every end is inside the array of groups. -/
theorem dst_inside (e : Fin 64) (i : Fin 1) : val_main_call3_v11 (F := Ideal) (ix2 e i) = 1#1 := by
  obtain rfl : i = 0 := Subsingleton.elim _ _
  pointwise [val_main_call3_v11, val_main_call3_v10, val_main_call3_v9, val_main_call3_v8, val_main_call3_v7,
    val_main_call3_v6, val_main_call3_c_1, val_main_call3_c_2]
  rw [dst_index]
  revert e
  decide +kernel

/-- The group an index word names, clamped to the groups. -/
theorem clamp_group (p : Fin 8) : min (BitVec.ofNat 32 p.val).toInt.toNat 7 = p.val := by
  revert p
  decide +kernel

/-- The pooled rows of the groups the edges start from. -/
theorem v43_at (e : Fin 64) (k : Fin 128) :
    val_main_v43 x0 x1 x2 x3 x4 (ix2 e k) = val_main_v35 x0 x1 x2 x3 x4 (ix2 (Args.src e) k) := by
  pointwise [val_main_v43, val_main_call2_v14, val_main_call2_v13, val_main_call2_v12, val_main_call2_c_3]
  rw [select_true (all_true _ (src_inside e)), gather_list]
  refine congrArg (fun r => val_main_v35 x0 x1 x2 x3 x4 (ix2 r k)) (Fin.ext ?_)
  show min (val_main_call2_v5 (F := Ideal) (ix2 e 0)).toInt.toNat 7 = _
  rw [src_index, clamp_group]

/-- The pooled rows of the groups the edges end in. -/
theorem v44_at (e : Fin 64) (k : Fin 128) :
    val_main_v44 x0 x1 x2 x3 x4 (ix2 e k) = val_main_v35 x0 x1 x2 x3 x4 (ix2 (Args.dst e) k) := by
  pointwise [val_main_v44, val_main_call3_v14, val_main_call3_v13, val_main_call3_v12, val_main_call3_c_3]
  rw [select_true (all_true _ (dst_inside e)), gather_list]
  refine congrArg (fun r => val_main_v35 x0 x1 x2 x3 x4 (ix2 r k)) (Fin.ext ?_)
  show min (val_main_call3_v5 (F := Ideal) (ix2 e 0)).toInt.toNat 7 = _
  rw [dst_index, clamp_group]

include h in
/-- The edges' features. -/
theorem v48_at (e : Fin 64) (k : Fin 128) : val_main_v48 x0 x1 x2 x3 x4 x5 (ix2 e k) = (A.edge e k : EReal) := by
  pointwise [val_main_v48, val_main_v46, val_main_v47, val_main_v45]
  simp only [v43_at, v44_at, v35_at h, h.u, ← EReal.coe_sub]
  rw [coe_dot, coe_dot, ← EReal.coe_add]
  rfl

include h in
/-- The reference's mean over the edges. -/
theorem v52_at (k : Fin 128) : val_main_v52 x0 x1 x2 x3 x4 x5 (ix2 0 k) = (mean (fun e => A.edge e k) : EReal) := by
  pointwise [val_main_v52, val_main_v51, val_main_v50, val_main_v49, val_main_cst_6, val_main_cst_7]
  simp only [v48_at h]
  exact mean_coe (by norm_num) _ (edges.trans (by norm_num))

include h in
/-- The reference's variance over the edges: the count is positive, so the variance is the one chosen. -/
theorem v53_at (k : Fin 128) : val_main_v53 x0 x1 x2 x3 x4 x5 (ix2 0 k) = (var (fun e => A.edge e k) : EReal) := by
  pointwise [val_main_v53, val_main_call4_v13, val_main_call4_v12, val_main_call4_cst_3, val_main_call4_v8,
    val_main_call4_v10, val_main_call4_v11, val_main_call4_v9, val_main_call4_v6, val_main_call4_v5, val_main_call4_v4,
    val_main_call4_v3, val_main_call4_v2, val_main_call4_v1, val_main_call4_v0, val_main_call4_cst, val_main_call4_cst_0,
    val_main_call4_cst_1, val_main_call4_cst_2, val_main_call4_v7, val_main_c_8]
  rw [less_zero, if_pos (by rw [edges]; exact_mod_cast (by norm_num : (0 : ℝ) < 64))]
  simp only [v48_at h]
  exact var_coe (by norm_num) _ (mean_coe (by norm_num) _ (edges.trans (by norm_num))) (edges.trans (by norm_num))

include h in
/-- The edges' features after normalization, scale and shift. -/
theorem v66_at (e : Fin 64) (k : Fin 128) :
    val_main_v66 x0 x1 x2 x3 x4 x5 x6 x7 (ix2 e k) = (A.edgeN e k : EReal) * x6 (ix1 k) + x7 (ix1 k) := by
  pointwise [val_main_v66, val_main_v63, val_main_v60, val_main_v62, val_main_v61, val_main_v65, val_main_v64,
    val_main_v55, val_main_v59, val_main_v58, val_main_v57, val_main_v56, val_main_v54, val_main_cst_9]
  rw [norm_of_deviations (fun e => A.edge e k) e (v48_at h e k) (v52_at h k) (v53_at h k)]
  rfl

include h in
/-- The edges' features after their activation. -/
theorem v73_at (e : Fin 64) (k : Fin 128) :
    val_main_v73 x0 x1 x2 x3 x4 x5 x6 x7 (ix2 e k) = A.msg (fun k => x6 (ix1 k)) (fun k => x7 (ix1 k)) e k := by
  pointwise [val_main_v73, val_main_v72, val_main_v71, val_main_v70, val_main_v69, val_main_v68, val_main_v67,
    val_main_cst_10, val_main_cst_11]
  rw [v66_at h]
  rfl

/-! ## The edges summed at their start -/

/-- The group an edge's update lands in. -/
theorem lands (idx : IVec S64x1 32) (e : Fin 64) (k : Fin 128) (p : Fin 8) (hp : (idx (ix2 e 0)).toInt = p.val) :
    scatter_S8x128_S64x1_S64x128_1_0_0_1.resultIdx? (ix2 e k) idx = some (ix2 p k) := by
  let d := scatter_S8x128_S64x1_S64x128_1_0_0_1
  have hread : ∀ c, d.siIdx (ix2 e k) c = ix2 e 0 := fun c => funext fun b => Fin.ext <| by
    match b with
    | ⟨0, _⟩ => rfl
    | ⟨1, _⟩ => exact Nat.lt_one_iff.mp c.isLt
  have hat : ∀ a, d.start (ix2 e k) idx a + d.window (ix2 e k) a = ((ix2 p k : S8x128.Idx) a).val := fun a => by
    match a with
    | ⟨0, _⟩ =>
      unfold ScatterDims.start
      rw [dif_pos (show (⟨0, by decide⟩ : Fin S8x128.rank) ∈ d.scatterDimsToOperandDims from List.mem_singleton.mpr rfl), hread, hp]
      exact Int.add_zero _
    | ⟨1, _⟩ =>
      unfold ScatterDims.start
      rw [dif_neg (show ¬(⟨1, by decide⟩ : Fin S8x128.rank) ∈ d.scatterDimsToOperandDims from (by decide : ¬(1 : Fin 2) ∈ [(0 : Fin 2)]))]
      exact Int.zero_add _
  unfold ScatterDims.resultIdx?
  rw [dif_pos fun a => ⟨(hat a).symm ▸ Int.natCast_nonneg _, (hat a).symm ▸ Int.ofNat_lt.mpr ((ix2 p k : S8x128.Idx) a).isLt⟩]
  exact congrArg some (funext fun a => Fin.ext (by
    show (d.start (ix2 e k) idx a + d.window (ix2 e k) a).toNat = _
    rw [hat a]; rfl))

/-- The signed value of a group's index word. -/
theorem word_group (p : Fin 8) : (BitVec.ofNat 32 p.val).toInt = p.val := by
  revert p
  decide +kernel

include h in
/-- The edges' features summed at their start. -/
theorem v81_at (p : Fin 8) (k : Fin 128) :
    val_main_v81 x0 x1 x2 x3 x4 x5 x6 x7 (ix2 p k)
      = ∑ s, A.msg (fun k => x6 (ix1 k)) (fun k => x7 (ix1 k)) (Args.out p s) k := by
  have hset : (Finset.univ.filter fun j => scatter_S8x128_S64x1_S64x128_1_0_0_1.resultIdx? j (val_main_v80 (F := Ideal))
      = some (ix2 p k)) = Finset.univ.image fun s => (ix2 (Args.out p s) k : S64x128.Idx) := Finset.ext fun j => by
    obtain ⟨e, l, rfl⟩ : ∃ (e : Fin 64) (l : Fin 128), j = ix2 e l := ⟨j 0, j 1, eq_ix2 j⟩
    rw [Finset.mem_filter, Finset.mem_image,
      lands _ e l (Args.src e) (by rw [sum_index, word_group])]
    simp only [Finset.mem_univ, true_and, Option.some.injEq, ix2_inj, Args.out_iff]
    exact ⟨fun ⟨⟨s, hs⟩, hk⟩ => ⟨s, hs, hk.symm⟩, fun ⟨s, hs, hk⟩ => ⟨⟨s, hs⟩, hk.symm⟩⟩
  show val_main_v74 (F := Ideal) (ix2 p k) + ∑ j ∈ Finset.univ.filter _, val_main_v73 x0 x1 x2 x3 x4 x5 x6 x7 j = _
  rw [hset, Finset.sum_image (fun a _ b _ hab => Args.out_inj p ((ix2_inj _ _ _ _).mp hab).1)]
  simp only [v73_at h]
  pointwise [val_main_v74, val_main_cst_12]

/-! ## The result -/

include h in
/-- The reference's result: the input scaled channelwise by the attention. -/
theorem v98_at (r : Fin 50000) (j : Fin 512) :
    val_main_v98 x0 x1 x2 x3 x4 x5 x6 x7 x8 x9 (ix2 r j)
      = x0 (ix2 r j) * A.attn (fun k => x6 (ix1 k)) (fun k => x7 (ix1 k)) (fun j k => x8 (ix2 j k)) (fun j => x9 (ix1 j)) j := by
  pointwise [val_main_v98, val_main_v97, val_main_v96, val_main_v95, val_main_v94, val_main_v93, val_main_v92,
    val_main_v91, val_main_v90, val_main_v89, val_main_v88, val_main_v87, val_main_v86, val_main_v85, val_main_v84,
    val_main_v83, val_main_v82, val_main_cst_15, val_main_cst_16, val_main_cst_17, val_main_cst_18]
  simp only [v81_at h]
  rw [eight]
  rfl

end Cert.ReferenceIdeal.Att

end
-- ==== Proof.Agree.lean ====
/- The two programs agree: from finite first arguments, the kernel and the reference end with the same result. -/
module

public import proofs.«01_k».proof.Defs
public import proofs.«01_k».proof.Proof.KerValue
public import proofs.«01_k».proof.Proof.RefRead
public import proofs.«01_k».proof.Proof.Gen.Pre_finite

@[expose] public section

set_option maxRecDepth 16384

noncomputable section

namespace Cert.Proof

open Idealize.ShloMosaic Idealize.ShloMosaic.TcCoe Idealize.ShloMosaic.StableHlo Idealize.SL.Sem Cert.Att

attribute [local instance] Cert.KernelIdeal.Gen.facts Cert.ReferenceIdeal.Gen.facts Cert.Pre_finite.Gen.facts

/-- A value whose magnitude is below infinity is a real number. -/
theorem real_of_bit (a : EReal)
    (h : (FloatOps.cmpf (F := Ideal) (φ := .f32) .olt (FloatOps.hostAbsf (F := Ideal) (φ := .f32) a)
      (FloatOps.ofBits (F := Ideal) .f32 0x7F800000#32)) = 1#1) : a = (a.toReal : EReal) := by
  have ht : Ideal.ofBits .f32 0x7F800000#32 = ⊤ := by
    simp [Ideal.ofBits, Ideal.ieee]
  have hl : max a (-a) < ⊤ := by
    rw [← ht]
    by_contra hn
    exact absurd h (by
      show ¬BitVec.ofBool (decide (max a (-a) < Ideal.ofBits .f32 0x7F800000#32)) = 1#1
      rw [decide_eq_false hn]
      decide)
  exact (EReal.coe_toReal (fun e => by simp [e] at hl) (fun e => by simp [e] at hl)).symm

/-- The real numbers in the first six arguments of a device. -/
def realArgs (m : (ℓ : Loc Cert.KernelIdeal.nD Cert.KernelIdeal.τ Cert.KernelIdeal.sig) → Buf (Elt Ideal) ℓ)
    (c : Dev Cert.KernelIdeal.nD) : Args where
  x r l := (Cert.KernelIdeal.Att.a0 m c (ix2 r l)).toReal
  w k l := (Cert.KernelIdeal.Att.a1 m c (ix2 k l)).toReal
  b k := (Cert.KernelIdeal.Att.a2 m c (ix1 k)).toReal
  g k := (Cert.KernelIdeal.Att.a3 m c (ix1 k)).toReal
  e k := (Cert.KernelIdeal.Att.a4 m c (ix1 k)).toReal
  u k l := (Cert.KernelIdeal.Att.a5 m c (ix2 k l)).toReal

/-- The precondition says that the first six arguments are real numbers. -/
theorem reals_of_finite (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Att.Reals m c (realArgs m c) where
  x r l := real_of_bit _ (congrFun (h c).1 (ix2 r l))
  w k l := real_of_bit _ (congrFun (h c).2.1 (ix2 k l))
  b k := real_of_bit _ (congrFun (h c).2.2.1 (ix1 k))
  g k := real_of_bit _ (congrFun (h c).2.2.2.1 (ix1 k))
  e k := real_of_bit _ (congrFun (h c).2.2.2.2.1 (ix1 k))
  u k l := real_of_bit _ (congrFun (h c).2.2.2.2.2 (ix2 k l))

/-- The reference's result, from arguments equal to the kernel's, is the kernel's. -/
theorem reference_result (m : (ℓ : Loc Cert.KernelIdeal.nD Cert.KernelIdeal.τ Cert.KernelIdeal.sig) → Buf (Elt Ideal) ℓ)
    (c : Dev Cert.KernelIdeal.nD) {A : Args} (h : Cert.KernelIdeal.Att.Reals m c A) :
    Cert.ReferenceIdeal.Read.val_main_v98 (F := Ideal) (Cert.KernelIdeal.Att.a0 m c) (Cert.KernelIdeal.Att.a1 m c)
      (Cert.KernelIdeal.Att.a2 m c) (Cert.KernelIdeal.Att.a3 m c) (Cert.KernelIdeal.Att.a4 m c)
      (Cert.KernelIdeal.Att.a5 m c) (Cert.KernelIdeal.Att.a6 m c) (Cert.KernelIdeal.Att.a7 m c)
      (Cert.KernelIdeal.Att.a8 m c) (Cert.KernelIdeal.Att.a9 m c) = Cert.KernelIdeal.Att.result m c A := by
  funext i
  obtain ⟨r, j, rfl⟩ : ∃ (r : Fin 50000) (j : Fin 512), i = ix2 r j := ⟨i 0, i 1, eq_ix2 i⟩
  exact Cert.ReferenceIdeal.Att.v98_at ⟨h.x, h.w, h.b, h.g, h.e, h.u⟩ r j

/-- From the same finite arguments, the kernel and the reference end with the same result. -/
theorem agree : Cert.algebraic_KernelIdeal_ReferenceIdeal_pre_finite := fun m g m' g' hpre hargs => by
  have hreals := reals_of_finite m hpre
  refine ⟨fun c => Cert.KernelIdeal.Att.result m c (realArgs m c), Cert.KernelIdeal.Att.run g _ hreals, ?_⟩
  refine (θ_run Cert.ReferenceIdeal.defs _ _).mono (fun r hr c => ⟨?_, (hr c).2⟩)
    (Cert.ReferenceIdeal.Value.run (F := Ideal) m' g')
  refine (hr c).1.trans ((Cert.ReferenceIdeal.Read.val_main_v98_eq (launchContents m' c)).trans ?_)
  obtain ⟨h0, h1, h2, h3, h4, h5, h6, h7, h8, h9⟩ := hargs c
  simp only [launchContents_devRef, h0, h1, h2, h3, h4, h5, h6, h7, h8, h9]
  exact reference_result m c (hreals c)

end Cert.Proof

end
-- ==== Proof.lean ====
module

public import proofs.«01_k».proof.Defs
public import proofs.«01_k».proof.Proof.Frames
public import proofs.«01_k».proof.Proof.Agree
public import proofs.«01_k».proof.Proof.Gen.Pre_finite
public import proofs.«01_k».proof.Proof.Gen.ReferenceIdeal.Read

@[expose] public section

noncomputable section

namespace Cert.Proof

open Idealize.ShloMosaic Idealize.SL.Sem

/-- Everything claimed. The frame claims need no precondition, so those stated under one hold as well. -/
theorem claim : Cert.Claim :=
  ⟨Cert.Kernel.Gen.facts, Cert.KernelIdeal.Gen.facts, Cert.ReferenceIdeal.Gen.facts, Cert.Pre_finite.Gen.facts,
    quiescent_bits, quiescent_ideal, fun m g _ => Cert.KernelIdeal.Att.frame (F := Ideal) m g,
    quiescent_ref, fun m g _ => quiescent_ref m g trivial, trivial, agree⟩

end Cert.Proof

end
